-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lower_bound [hPre_lower_bound : Cert.Pre_lower_bound.Facts] (m : (ℓ : Loc Cert.KernelIdeal.nD Cert.KernelIdeal.τ Cert.KernelIdeal.sig) → Buf (Elt Ideal) ℓ) : Prop :=
  ∀ c : Dev Cert.KernelIdeal.nD,
    (Cert.Pre_lower_bound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lower_bound [hPre_lower_bound : Cert.Pre_lower_bound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lower_bound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lower_bound [hKernelIdeal : Cert.KernelIdeal.Facts] [hPre_lower_bound : Cert.Pre_lower_bound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lower_bound m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lower_bound [hReferenceIdeal : Cert.ReferenceIdeal.Facts] [hPre_lower_bound : Cert.Pre_lower_bound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lower_bound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_lower_bound [hKernelIdeal : Cert.KernelIdeal.Facts] [hReferenceIdeal : Cert.ReferenceIdeal.Facts] [hPre_lower_bound : Cert.Pre_lower_bound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lower_bound m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_lower_bound : Cert.Pre_lower_bound.Facts),
    quiescent_Kernel (hKernel := hKernel)
    ∧ quiescent_KernelIdeal (hKernelIdeal := hKernelIdeal)
    ∧ quiescent_KernelIdeal_pre_lower_bound (hKernelIdeal := hKernelIdeal) (hPre_lower_bound := hPre_lower_bound)
    ∧ quiescent_ReferenceIdeal (hReferenceIdeal := hReferenceIdeal)
    ∧ quiescent_ReferenceIdeal_pre_lower_bound (hReferenceIdeal := hReferenceIdeal) (hPre_lower_bound := hPre_lower_bound)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_lower_bound (hKernelIdeal := hKernelIdeal) (hReferenceIdeal := hReferenceIdeal) (hPre_lower_bound := hPre_lower_bound)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_lower_bound.lean ====
abbrev S8x2048x17408 : Shape := ⟨3, ![8, 2048, 17408]⟩
abbrev S8x1x128 : Shape := ⟨3, ![8, 1, 128]⟩
abbrev S_ : Shape := ⟨0, ![]⟩

class Facts : Prop where
  bcast_S_S8x1x128 : S_.BroadcastsInDim S8x1x128 (![] : Fin 0 → Fin S8x1x128.rank)
  reducesTo_S8x1x128_S_d0_1_2 : S8x1x128.ReducesTo [0, 1, 2] S_
  h_S_ : 0 < S_.numel

variable [Facts]

def fn {F : FTy → Type} [FloatOps F] (main_arg0 : FVec F S8x2048x17408 .bf16) (main_arg1 : FVec F S8x1x128 .f32) : IVec S_ 1 :=
  let main_cst : FVec F S_ .f32 := constant S_ .f32 0x00000000#32
  let main_v0 : FVec F S8x1x128 .f32 := broadcastInDim S8x1x128 ![] bcast_S_S8x1x128 main_cst
  let main_v1 : IVec S8x1x128 1 := cmpf .oge main_arg1 main_v0
  let main_cst_0 : FVec F S_ .f32 := constant S_ .f32 0x3F800000#32
  let main_v2 : FVec F S8x1x128 .f32 := broadcastInDim S8x1x128 ![] bcast_S_S8x1x128 main_cst_0
  let main_v3 : IVec S8x1x128 1 := cmpf .ole main_arg1 main_v2
  let main_v4 : IVec S8x1x128 1 := andi main_v1 main_v3
  let main_c : IVec S_ 1 := constantI S_ 1 1#1
  let main_v5 : IVec S_ 1 := (fun x v => Host.reduce IntOp.andi x v reducesTo_S8x1x128_S_d0_1_2 h_S_) main_v4 main_c
  main_v5
-- ==== Kernel.lean ====
abbrev S8x2048x17408 : Shape := ⟨3, ![8, 2048, 17408]⟩
abbrev S8x1x128 : Shape := ⟨3, ![8, 1, 128]⟩
abbrev S8x2048x1024 : Shape := ⟨3, ![8, 2048, 1024]⟩
abbrev S1x2048x128 : Shape := ⟨3, ![1, 2048, 128]⟩
abbrev S1x1x128 : Shape := ⟨3, ![1, 1, 128]⟩
abbrev S32x128x128 : Shape := ⟨3, ![32, 128, 128]⟩
abbrev S32x1x128 : Shape := ⟨3, ![32, 1, 128]⟩
abbrev S1x128 : Shape := ⟨2, ![1, 128]⟩
abbrev S2048x128 : Shape := ⟨2, ![2048, 128]⟩
abbrev S32x64x128 : Shape := ⟨3, ![32, 64, 128]⟩
abbrev S1x64x64 : Shape := ⟨3, ![1, 64, 64]⟩
abbrev S1x64x128 : Shape := ⟨3, ![1, 64, 128]⟩
abbrev S32x64x64 : Shape := ⟨3, ![32, 64, 64]⟩
abbrev S32x64 : Shape := ⟨2, ![32, 64]⟩
abbrev S32x64x1 : Shape := ⟨3, ![32, 64, 1]⟩
abbrev S64x32x128 : Shape := ⟨3, ![64, 32, 128]⟩
abbrev S64x1x128 : Shape := ⟨3, ![64, 1, 128]⟩
abbrev S128x16x128 : Shape := ⟨3, ![128, 16, 128]⟩
abbrev S128x1x128 : Shape := ⟨3, ![128, 1, 128]⟩
abbrev S256x8x128 : Shape := ⟨3, ![256, 8, 128]⟩
abbrev S256x1x128 : Shape := ⟨3, ![256, 1, 128]⟩
abbrev S128x128 : Shape := ⟨2, ![128, 128]⟩
abbrev S1x128x128 : Shape := ⟨3, ![1, 128, 128]⟩

abbrev nBuf : Space → Nat
  | .hbm => 3
  | .vmem => 13
  | .smem => 0
  | _ => 0

abbrev bufTy : (tb : Table) → Fin (tcTables nBuf tb) → BufTy
  | .hbm, ⟨0, _⟩ => ⟨S8x2048x17408, .bf16⟩
  | .hbm, ⟨1, _⟩ => ⟨S8x1x128, .f32⟩
  | .hbm, ⟨2, _⟩ => ⟨S8x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x128, .f32⟩
  | .local _ .vmem, ⟨7, _⟩ => ⟨S1x1x128, .f32⟩
  | .local _ .vmem, ⟨8, _⟩ => ⟨S1x2048x128, .bf16⟩
  | .local _ .vmem, ⟨9, _⟩ => ⟨S1x2048x128, .bf16⟩
  | .local _ .vmem, ⟨10, _⟩ => ⟨S32x128x128, .f32⟩
  | .local _ .vmem, ⟨11, _⟩ => ⟨S32x128x128, .bf16⟩
  | .local _ .vmem, ⟨12, _⟩ => ⟨S32x1x128, .f32⟩
  | _, _ => ⟨S8x2048x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_83 : BitVec 32 := 0#32
  let c32_i32_84 : BitVec 32 := 32#32
  let v334 : BitVec 32 := Scalar.addi c0_i32_83 c32_i32_84
  let c1_i32_85 : BitVec 32 := 1#32
  ⟨c0_i32_83, v334, c1_i32_85⟩
def k0_off1 (k0_t1 : Fin k0_t1_loop.trips) : Fin 3 → Nat :=
  let c0_i32_83 : BitVec 32 := 0#32
  let c1_i32_85 : BitVec 32 := 1#32
  let arg10 : BitVec 32 := Scf.iv c0_i32_83 c1_i32_85 k0_t1
  let v348 : Index := Scalar.indexCast arg10
  let c0_94 : Index := 0#32
  let c0_95 : Index := 0#32
  ![v348.toNat, 0, 0]
def k0_off2 (k0_t1 : Fin k0_t1_loop.trips) : Fin 3 → Nat :=
  let c0_i32_83 : BitVec 32 := 0#32
  let c1_i32_85 : BitVec 32 := 1#32
  let arg10 : BitVec 32 := Scf.iv c0_i32_83 c1_i32_85 k0_t1
  let v352 : Index := Scalar.indexCast arg10
  let c0_96 : Index := 0#32
  let c0_97 : Index := 0#32
  ![v352.toNat, 0, 0]
def cc0_transform_0 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x17408 : Shape := ⟨3, ![8, 2048, 17408]⟩
abbrev S8x1x128 : Shape := ⟨3, ![8, 1, 128]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩
abbrev S_ : Shape := ⟨0, ![]⟩
abbrev S1x8x1x128 : Shape := ⟨4, ![1, 8, 1, 128]⟩
abbrev S8x8x32x64x128 : Shape := ⟨5, ![8, 8, 32, 64, 128]⟩
abbrev S32x8x8x64x128 : Shape := ⟨5, ![32, 8, 8, 64, 128]⟩
abbrev S64x64 : Shape := ⟨2, ![64, 64]⟩
abbrev S64x64x1 : Shape := ⟨3, ![64, 64, 1]⟩
abbrev S8x8x128x128 : Shape := ⟨4, ![8, 8, 128, 128]⟩
abbrev S1x8x8x64x128 : Shape := ⟨5, ![1, 8, 8, 64, 128]⟩
abbrev S8x8x64x128 : Shape := ⟨4, ![8, 8, 64, 128]⟩
abbrev S8x8x64x1x128 : Shape := ⟨5, ![8, 8, 64, 1, 128]⟩
abbrev S8x8x1x64x128 : Shape := ⟨5, ![8, 8, 1, 64, 128]⟩
abbrev S8x8x64x64x128 : Shape := ⟨5, ![8, 8, 64, 64, 128]⟩
abbrev S8x8x64x64 : Shape := ⟨4, ![8, 8, 64, 64]⟩
abbrev S8x8x1x128 : Shape := ⟨4, ![8, 8, 1, 128]⟩
abbrev S8x8x128 : Shape := ⟨3, ![8, 8, 128]⟩
abbrev S8x8x128x1 : Shape := ⟨4, ![8, 8, 128, 1]⟩

abbrev nBuf : Space → Nat
  | .hbm => 163
  | .vmem => 0
  | .smem => 0
  | _ => 0

abbrev hbmTy0_0 (i : Nat) : BufTy := match i % 128 with
  | 0 => ⟨S8x2048x17408, .bf16⟩
  | 1 => ⟨S8x1x128, .f32⟩
  | 2 => ⟨S8x2048x1024, .bf16⟩
  | 3 => ⟨S8x2048x1024, .f32⟩
  | 4 => ⟨S8x2048x1024, .bf16⟩
  | 5 => ⟨S8x2048x1024, .f32⟩
  | 6 => ⟨S8x2048x1024, .bf16⟩
  | 7 => ⟨S8x2048x1024, .f32⟩
  | 8 => ⟨S8x2048x8x128, .f32⟩
  | 9 => ⟨S8x8x2048x128, .f32⟩
  | 10 => ⟨S8x8x2048x128, .f32⟩
  | 11 => ⟨S8x8x2048x128, .f32⟩
  | 12 => ⟨S_, .f32⟩
  | 13 => ⟨S8x8x2048x128, .f32⟩
  | 14 => ⟨S8x8x2048x128, .f32⟩
  | 15 => ⟨S_, .f32⟩
  | 16 => ⟨S8x8x2048x128, .f32⟩
  | 17 => ⟨S8x8x2048x128, .f32⟩
  | 18 => ⟨S8x8x2048x128, .f32⟩
  | 19 => ⟨S_, .f32⟩
  | 20 => ⟨S8x1x128, .f32⟩
  | 21 => ⟨S8x1x128, .f32⟩
  | 22 => ⟨S8x2048x8x128, .f32⟩
  | 23 => ⟨S8x8x2048x128, .f32⟩
  | 24 => ⟨S8x8x2048x128, .f32⟩
  | 25 => ⟨S8x8x2048x128, .f32⟩
  | 26 => ⟨S_, .f32⟩
  | 27 => ⟨S8x8x2048x128, .f32⟩
  | 28 => ⟨S8x8x2048x128, .f32⟩
  | 29 => ⟨S_, .f32⟩
  | 30 => ⟨S8x8x2048x128, .f32⟩
  | 31 => ⟨S8x8x2048x128, .f32⟩
  | 32 => ⟨S1x8x1x128, .f32⟩
  | 33 => ⟨S8x8x2048x128, .f32⟩
  | 34 => ⟨S8x8x2048x128, .f32⟩
  | 35 => ⟨S1x8x1x128, .f32⟩
  | 36 => ⟨S8x8x2048x128, .f32⟩
  | 37 => ⟨S8x8x2048x128, .f32⟩
  | 38 => ⟨S_, .f32⟩
  | 39 => ⟨S8x8x2048x128, .f32⟩
  | 40 => ⟨S8x8x2048x128, .f32⟩
  | 41 => ⟨S8x8x2048x128, .f32⟩
  | 42 => ⟨S_, .f32⟩
  | 43 => ⟨S8x8x2048x128, .f32⟩
  | 44 => ⟨S8x8x2048x128, .f32⟩
  | 45 => ⟨S8x2048x8x128, .f32⟩
  | 46 => ⟨S8x8x2048x128, .f32⟩
  | 47 => ⟨S8x8x32x64x128, .f32⟩
  | 48 => ⟨S_, .f32⟩
  | 49 => ⟨S_, .f32⟩
  | 50 => ⟨S8x8x32x64x128, .f32⟩
  | 51 => ⟨S8x8x32x64x128, .f32⟩
  | 52 => ⟨S32x8x8x64x128, .f32⟩
  | 53 => ⟨S8x8x32x64x128, .f32⟩
  | 54 => ⟨S32x8x8x64x128, .f32⟩
  | 55 => ⟨S8x8x32x64x128, .f32⟩
  | 56 => ⟨S32x8x8x64x128, .f32⟩
  | 57 => ⟨S32x8x8x64x128, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S64x64x1, .i1⟩
  | 70 => ⟨S_, .f32⟩
  | 71 => ⟨S8x8x128x128, .f32⟩
  | 72 => ⟨S_, .f32⟩
  | 73 => ⟨S32x8x8x64x128, .f32⟩
  | 74 => ⟨S_, .i32⟩
  | 75 => ⟨S32x8x8x64x128, .f32⟩
  | 76 => ⟨S32x8x8x64x128, .f32⟩
  | 77 => ⟨S32x8x8x64x128, .f32⟩
  | 78 => ⟨S32x8x8x64x128, .f32⟩
  | 79 => ⟨S64x64x1, .i1⟩
  | 80 => ⟨S_, .i32⟩
  | 81 => ⟨S8x8x128x128, .f32⟩
  | 82 => ⟨S32x8x8x64x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S1x8x8x64x128, .f32⟩
  | 90 => ⟨S8x8x64x128, .f32⟩
  | 91 => ⟨S_, .i32⟩
  | 92 => ⟨S_, .i32⟩
  | 93 => ⟨S_, .i32⟩
  | 94 => ⟨S_, .i32⟩
  | 95 => ⟨S1x8x8x64x128, .f32⟩
  | 96 => ⟨S8x8x64x128, .f32⟩
  | 97 => ⟨S_, .i32⟩
  | 98 => ⟨S_, .i32⟩
  | 99 => ⟨S_, .i32⟩
  | 100 => ⟨S_, .i32⟩
  | 101 => ⟨S1x8x8x64x128, .f32⟩
  | 102 => ⟨S8x8x64x128, .f32⟩
  | 103 => ⟨S_, .i32⟩
  | 104 => ⟨S_, .i32⟩
  | 105 => ⟨S_, .i32⟩
  | 106 => ⟨S_, .i32⟩
  | 107 => ⟨S1x8x8x64x128, .f32⟩
  | 108 => ⟨S8x8x64x128, .f32⟩
  | 109 => ⟨S8x8x64x1x128, .f32⟩
  | 110 => ⟨S8x8x1x64x128, .f32⟩
  | 111 => ⟨S8x8x64x64x128, .f32⟩
  | 112 => ⟨S8x8x64x64x128, .f32⟩
  | 113 => ⟨S8x8x64x64x128, .f32⟩
  | 114 => ⟨S_, .f32⟩
  | 115 => ⟨S_, .f32⟩
  | 116 => ⟨S8x8x64x64x128, .i1⟩
  | 117 => ⟨S8x8x64x64x128, .f32⟩
  | 118 => ⟨S8x8x64x64x128, .f32⟩
  | 119 => ⟨S8x8x64x64x128, .f32⟩
  | 120 => ⟨S_, .f32⟩
  | 121 => ⟨S_, .f32⟩
  | 122 => ⟨S8x8x64x64x128, .i1⟩
  | 123 => ⟨S8x8x64x64x128, .f32⟩
  | 124 => ⟨S8x8x64x64x128, .f32⟩
  | 125 => ⟨S8x8x64x1x128, .f32⟩
  | 126 => ⟨S8x8x1x64x128, .f32⟩
  | 127 => ⟨S8x8x64x64x128, .f32⟩
  | _ => ⟨S8x2048x17408, .bf16⟩

abbrev hbmTy0_1 (i : Nat) : BufTy := match i % 128 with
  | 0 => ⟨S8x8x64x64x128, .f32⟩
  | 1 => ⟨S8x8x64x64x128, .f32⟩
  | 2 => ⟨S8x8x64x64x128, .f32⟩
  | 3 => ⟨S_, .f32⟩
  | 4 => ⟨S8x8x64x64, .f32⟩
  | 5 => ⟨S8x8x64x128, .f32⟩
  | 6 => ⟨S8x8x64x128, .f32⟩
  | 7 => ⟨S8x8x64x128, .f32⟩
  | 8 => ⟨S8x8x64x128, .f32⟩
  | 9 => ⟨S8x8x64x128, .f32⟩
  | 10 => ⟨S8x8x1x128, .f32⟩
  | 11 => ⟨S8x8x128, .f32⟩
  | 12 => ⟨S8x8x128x1, .f32⟩
  | 13 => ⟨S8x8x128x1, .f32⟩
  | 14 => ⟨S8x8x128x128, .f32⟩
  | 15 => ⟨S8x8x128x128, .f32⟩
  | 16 => ⟨S8x8x64x128, .f32⟩
  | 17 => ⟨S8x8x64x128, .f32⟩
  | 18 => ⟨S8x8x64x128, .f32⟩
  | 19 => ⟨S8x8x64x128, .f32⟩
  | 20 => ⟨S8x8x128x128, .f32⟩
  | 21 => ⟨S8x8x128x128, .f32⟩
  | 22 => ⟨S1x8x8x64x128, .f32⟩
  | 23 => ⟨S_, .i32⟩
  | 24 => ⟨S_, .i32⟩
  | 25 => ⟨S_, .i32⟩
  | 26 => ⟨S_, .i32⟩
  | 27 => ⟨S32x8x8x64x128, .f32⟩
  | 28 => ⟨S_, .i32⟩
  | 29 => ⟨S_, .i32⟩
  | 30 => ⟨S8x8x32x64x128, .f32⟩
  | 31 => ⟨S8x8x2048x128, .f32⟩
  | 32 => ⟨S8x2048x8x128, .f32⟩
  | 33 => ⟨S8x2048x1024, .f32⟩
  | 34 => ⟨S8x2048x1024, .bf16⟩
  | _ => ⟨S8x2048x17408, .bf16⟩

abbrev hbmTy (i : Nat) : BufTy := match i / 128 with
  | 0 => hbmTy0_0 i
  | 1 => hbmTy0_1 i
  | _ => ⟨S8x2048x17408, .bf16⟩

abbrev bufTy : (tb : Table) → Fin (tcTables nBuf tb) → BufTy
  | .hbm, ⟨i, _⟩ => hbmTy i
  | _, _ => ⟨S8x2048x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_call0_cst : Ref sig .tc := ⟨.hbm, 48, rfl⟩
abbrev main_call1_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_v41 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_0 : Ref sig .tc := ⟨.hbm, 66, rfl⟩
abbrev main_call2_v5 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_c_6 : Ref sig .tc := ⟨.hbm, 74, rfl⟩
abbrev main_v46_0 : Ref sig .tc := ⟨.hbm, 75, rfl⟩
abbrev main_v46_1 : Ref sig .tc := ⟨.hbm, 76, rfl⟩
abbrev main_v46_2 : Ref sig .tc := ⟨.hbm, 77, rfl⟩
abbrev main_v46_3 : Ref sig .tc := ⟨.hbm, 78, rfl⟩
abbrev main_v46_4 : Ref sig .tc := ⟨.hbm, 79, rfl⟩
abbrev main_v46_5 : Ref sig .tc := ⟨.hbm, 80, rfl⟩
abbrev main_v46_6 : Ref sig .tc := ⟨.hbm, 81, rfl⟩
abbrev main_v46_7 : Ref sig .tc := ⟨.hbm, 82, rfl⟩
abbrev main_while0c_c_14 : Ref sig .tc := ⟨.hbm, 83, rfl⟩
abbrev main_while0c_v52 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_c_2 : Ref sig .tc := ⟨.hbm, 88, rfl⟩
abbrev main_while0b_call3_v0 : Ref sig .tc := ⟨.hbm, 89, rfl⟩
abbrev main_while0b_v52 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_c_2 : Ref sig .tc := ⟨.hbm, 94, rfl⟩
abbrev main_while0b_call4_v0 : Ref sig .tc := ⟨.hbm, 95, rfl⟩
abbrev main_while0b_v53 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_c_2 : Ref sig .tc := ⟨.hbm, 100, rfl⟩
abbrev main_while0b_call5_v0 : Ref sig .tc := ⟨.hbm, 101, rfl⟩
abbrev main_while0b_v54 : Ref sig .tc := ⟨.hbm, 102, rfl⟩
abbrev main_while0b_call6_c : Ref sig .tc := ⟨.hbm, 103, rfl⟩
abbrev main_while0b_call6_c_0 : Ref sig .tc := ⟨.hbm, 104, rfl⟩
abbrev main_while0b_call6_c_1 : Ref sig .tc := ⟨.hbm, 105, rfl⟩
abbrev main_while0b_call6_c_2 : Ref sig .tc := ⟨.hbm, 106, rfl⟩
abbrev main_while0b_call6_v0 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_v60 : Ref sig .tc := ⟨.hbm, 113, rfl⟩
abbrev main_while0b_cst_14 : Ref sig .tc := ⟨.hbm, 114, rfl⟩
abbrev main_while0b_call7_v0 : Ref sig .tc := ⟨.hbm, 115, rfl⟩
abbrev main_while0b_call7_v1 : Ref sig .tc := ⟨.hbm, 116, rfl⟩
abbrev main_while0b_call7_v2 : Ref sig .tc := ⟨.hbm, 117, rfl⟩
abbrev main_while0b_v61 : Ref sig .tc := ⟨.hbm, 118, rfl⟩
abbrev main_while0b_v62 : Ref sig .tc := ⟨.hbm, 119, rfl⟩
abbrev main_while0b_cst_15 : Ref sig .tc := ⟨.hbm, 120, rfl⟩
abbrev main_while0b_call8_v0 : Ref sig .tc := ⟨.hbm, 121, rfl⟩
abbrev main_while0b_call8_v1 : Ref sig .tc := ⟨.hbm, 122, rfl⟩
abbrev main_while0b_call8_v2 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_cst_16 : Ref sig .tc := ⟨.hbm, 131, rfl⟩
abbrev main_while0b_v70 : Ref sig .tc := ⟨.hbm, 132, rfl⟩
abbrev main_while0b_v71 : Ref sig .tc := ⟨.hbm, 133, rfl⟩
abbrev main_while0b_v72 : Ref sig .tc := ⟨.hbm, 134, rfl⟩
abbrev main_while0b_v73 : Ref sig .tc := ⟨.hbm, 135, rfl⟩
abbrev main_while0b_v74 : Ref sig .tc := ⟨.hbm, 136, rfl⟩
abbrev main_while0b_v75 : Ref sig .tc := ⟨.hbm, 137, rfl⟩
abbrev main_while0b_v76 : Ref sig .tc := ⟨.hbm, 138, rfl⟩
abbrev main_while0b_v77 : Ref sig .tc := ⟨.hbm, 139, rfl⟩
abbrev main_while0b_v78 : Ref sig .tc := ⟨.hbm, 140, rfl⟩
abbrev main_while0b_v79 : Ref sig .tc := ⟨.hbm, 141, rfl⟩
abbrev main_while0b_v80 : Ref sig .tc := ⟨.hbm, 142, rfl⟩
abbrev main_while0b_v81 : Ref sig .tc := ⟨.hbm, 143, rfl⟩
abbrev main_while0b_v82 : Ref sig .tc := ⟨.hbm, 144, rfl⟩
abbrev main_while0b_v83 : Ref sig .tc := ⟨.hbm, 145, rfl⟩
abbrev main_while0b_v84 : Ref sig .tc := ⟨.hbm, 146, rfl⟩
abbrev main_while0b_v85 : Ref sig .tc := ⟨.hbm, 147, rfl⟩
abbrev main_while0b_v86 : Ref sig .tc := ⟨.hbm, 148, rfl⟩
abbrev main_while0b_v87 : Ref sig .tc := ⟨.hbm, 149, rfl⟩
abbrev main_while0b_call9_v0 : Ref sig .tc := ⟨.hbm, 150, rfl⟩
abbrev main_while0b_call9_c : Ref sig .tc := ⟨.hbm, 151, rfl⟩
abbrev main_while0b_call9_c_0 : Ref sig .tc := ⟨.hbm, 152, rfl⟩
abbrev main_while0b_call9_c_1 : Ref sig .tc := ⟨.hbm, 153, rfl⟩
abbrev main_while0b_call9_c_2 : Ref sig .tc := ⟨.hbm, 154, rfl⟩
abbrev main_while0b_v88 : Ref sig .tc := ⟨.hbm, 155, rfl⟩
abbrev main_while0b_c_17 : Ref sig .tc := ⟨.hbm, 156, rfl⟩
abbrev main_while0b_v89 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S_ : Shape := ⟨0, ![]⟩
abbrev S16384 : Shape := ⟨1, ![16384]⟩
abbrev S16384x1 : Shape := ⟨2, ![16384, 1]⟩
abbrev S1x2048x5632 : Shape := ⟨3, ![1, 2048, 5632]⟩
abbrev S2048x5632 : Shape := ⟨2, ![2048, 5632]⟩
abbrev S16384x5632 : Shape := ⟨2, ![16384, 5632]⟩
abbrev S1x5632x2048 : Shape := ⟨3, ![1, 5632, 2048]⟩
abbrev S5632x2048 : Shape := ⟨2, ![5632, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S1x2048x5632, .f32⟩
  | .hbm, ⟨22, _⟩ => ⟨S2048x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S1x2048x5632, .f32⟩
  | .hbm, ⟨34, _⟩ => ⟨S2048x5632, .f32⟩
  | .hbm, ⟨35, _⟩ => ⟨S16384x5632, .f32⟩
  | .hbm, ⟨36, _⟩ => ⟨S16384x5632, .f32⟩
  | .hbm, ⟨37, _⟩ => ⟨S1x5632x2048, .f32⟩
  | .hbm, ⟨38, _⟩ => ⟨S5632x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S_ : Shape := ⟨0, ![]⟩
abbrev S16384 : Shape := ⟨1, ![16384]⟩
abbrev S16384x1 : Shape := ⟨2, ![16384, 1]⟩
abbrev S1x2048x5632 : Shape := ⟨3, ![1, 2048, 5632]⟩
abbrev S2048x5632 : Shape := ⟨2, ![2048, 5632]⟩
abbrev S16384x5632 : Shape := ⟨2, ![16384, 5632]⟩
abbrev S1x5632x2048 : Shape := ⟨3, ![1, 5632, 2048]⟩
abbrev S5632x2048 : Shape := ⟨2, ![5632, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S1x2048x5632, .f32⟩
  | .hbm, ⟨22, _⟩ => ⟨S2048x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S1x2048x5632, .f32⟩
  | .hbm, ⟨34, _⟩ => ⟨S2048x5632, .f32⟩
  | .hbm, ⟨35, _⟩ => ⟨S16384x5632, .f32⟩
  | .hbm, ⟨36, _⟩ => ⟨S16384x5632, .f32⟩
  | .hbm, ⟨37, _⟩ => ⟨S1x5632x2048, .f32⟩
  | .hbm, ⟨38, _⟩ => ⟨S5632x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S2x2048x17408 : Shape := ⟨3, ![2, 2048, 17408]⟩
abbrev S1x128 : Shape := ⟨2, ![1, 128]⟩
abbrev S16384x17408 : Shape := ⟨2, ![16384, 17408]⟩
abbrev S16384x128 : Shape := ⟨2, ![16384, 128]⟩
abbrev S1024x2048 : Shape := ⟨2, ![1024, 2048]⟩
abbrev S1x2048x1024 : Shape := ⟨3, ![1, 2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x17408, .bf16⟩
  | .hbm, ⟨3, _⟩ => ⟨S1x128, .f32⟩
  | .hbm, ⟨4, _⟩ => ⟨S1x128, .f32⟩
  | .hbm, ⟨5, _⟩ => ⟨S16384x17408, .bf16⟩
  | .hbm, ⟨6, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x128, .f32⟩
  | .local _ .vmem, ⟨6, _⟩ => ⟨S1x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 17], ![false, false]⟩

def k0_cond2 (i : grid0.Coords) : BitVec 1 :=
  let arg1 : BitVec 32 := BitVec.ofNat 32 (i 1).val
  let c6_i32 : BitVec 32 := 6#32
  let v9 : BitVec 1 := Scalar.cmpi .eq arg1 c6_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S16384x2048 : Shape := ⟨2, ![16384, 2048]⟩
abbrev S1x2048 : Shape := ⟨2, ![1, 2048]⟩
abbrev S2x2048x17408 : Shape := ⟨3, ![2, 2048, 17408]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S1x2048x17408 : Shape := ⟨3, ![1, 2048, 17408]⟩
abbrev S2048x17408 : Shape := ⟨2, ![2048, 17408]⟩
abbrev S16384x17408 : Shape := ⟨2, ![16384, 17408]⟩
abbrev S16384x128 : Shape := ⟨2, ![16384, 128]⟩
abbrev S128 : Shape := ⟨1, ![128]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x17408, .bf16⟩
  | .hbm, ⟨3, _⟩ => ⟨S1x128, .f32⟩
  | .hbm, ⟨4, _⟩ => ⟨S1x128, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S1x2048x17408, .bf16⟩
  | .hbm, ⟨21, _⟩ => ⟨S2048x17408, .bf16⟩
  | .hbm, ⟨22, _⟩ => ⟨S16384x17408, .f32⟩
  | .hbm, ⟨23, _⟩ => ⟨S16384x128, .f32⟩
  | .hbm, ⟨24, _⟩ => ⟨S128, .i32⟩
  | .hbm, ⟨25, _⟩ => ⟨S1x128, .i32⟩
  | .hbm, ⟨26, _⟩ => ⟨S1x128, .f32⟩
  | .hbm, ⟨27, _⟩ => ⟨S1x128, .f32⟩
  | .hbm, ⟨28, _⟩ => ⟨S16384x128, .f32⟩
  | .hbm, ⟨29, _⟩ => ⟨S16384x128, .f32⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x128, .i1⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x17408, .bf16⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S1x128, .i1⟩
  | .hbm, ⟨54, _⟩ => ⟨S16384x128, .f32⟩
  | .hbm, ⟨55, _⟩ => ⟨S16384x128, .f32⟩
  | .hbm, ⟨56, _⟩ => ⟨S_, .f32⟩
  | .hbm, ⟨57, _⟩ => ⟨S16384x128, .f32⟩
  | .hbm, ⟨58, _⟩ => ⟨S16384x128, .f32⟩
  | .hbm, ⟨59, _⟩ => ⟨S_, .f32⟩
  | .hbm, ⟨60, _⟩ => ⟨S16384x128, .f32⟩
  | .hbm, ⟨61, _⟩ => ⟨S16384x128, .f32⟩
  | .hbm, ⟨62, _⟩ => ⟨S16384x128, .i1⟩
  | .hbm, ⟨63, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_c_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_call1_v0 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Kernel5.lean ====
abbrev S16384x2048 : Shape := ⟨2, ![16384, 2048]⟩
abbrev S16384x17408 : Shape := ⟨2, ![16384, 17408]⟩
abbrev S16384x1024 : Shape := ⟨2, ![16384, 1024]⟩
abbrev S1x1024 : Shape := ⟨2, ![1, 1024]⟩
abbrev S2x1024x2048 : Shape := ⟨3, ![2, 1024, 2048]⟩
abbrev S2x2048x2048 : Shape := ⟨3, ![2, 2048, 2048]⟩
abbrev S1024x512 : Shape := ⟨2, ![1024, 512]⟩
abbrev S1024x1024 : Shape := ⟨2, ![1024, 1024]⟩
abbrev S1x1024x512 : Shape := ⟨3, ![1, 1024, 512]⟩
abbrev S1x2048x512 : Shape := ⟨3, ![1, 2048, 512]⟩
abbrev S4x1024x512 : Shape := ⟨3, ![4, 1024, 512]⟩
abbrev S1024 : Shape := ⟨1, ![1024]⟩
abbrev S1024x1 : Shape := ⟨2, ![1024, 1]⟩
abbrev S1x512x512 : Shape := ⟨3, ![1, 512, 512]⟩
abbrev S512x512 : Shape := ⟨2, ![512, 512]⟩

abbrev nBuf : Space → Nat
  | .hbm => 11
  | .vmem => 29
  | .smem => 0
  | _ => 0

abbrev bufTy : (tb : Table) → Fin (tcTables nBuf tb) → BufTy
  | .hbm, ⟨0, _⟩ => ⟨S16384x2048, .f32⟩
  | .hbm, ⟨1, _⟩ => ⟨S16384x17408, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1x1024, .f32⟩
  | .hbm, ⟨6, _⟩ => ⟨S2x1024x2048, .bf16⟩
  | .hbm, ⟨7, _⟩ => ⟨S2x1024x2048, .bf16⟩
  | .hbm, ⟨8, _⟩ => ⟨S2x1024x2048, .bf16⟩
  | .hbm, ⟨9, _⟩ => ⟨S2x2048x2048, .bf16⟩
  | .hbm, ⟨10, _⟩ => ⟨S16384x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x2048x512, .bf16⟩
  | .local _ .vmem, ⟨24, _⟩ => ⟨S1x2048x512, .bf16⟩
  | .local _ .vmem, ⟨25, _⟩ => ⟨S1024x512, .f32⟩
  | .local _ .vmem, ⟨26, _⟩ => ⟨S1024x512, .f32⟩
  | .local _ .vmem, ⟨27, _⟩ => ⟨S1024x1024, .bf16⟩
  | .local _ .vmem, ⟨28, _⟩ => ⟨S4x1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v54 : Index := Scalar.indexCast arg1
  let c0_35 : Index := 0#32
  let c0_36 : Index := 0#32
  ![v54.toNat, 0, 0]
def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c22_i32 : BitVec 32 := 22#32
  let v1 : BitVec 32 := Scalar.addi c22_i32 v0
  let c0_i32 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c26_i32 : BitVec 32 := 26#32
  let v1 : BitVec 32 := Scalar.addi c26_i32 v0
  let c0_i32 : BitVec 32 := 0#32
  ![arg0.toNat, v1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c30_i32 : BitVec 32 := 30#32
  let v1 : BitVec 32 := Scalar.addi c30_i32 v0
  let c0_i32 : BitVec 32 := 0#32
  ![arg0.toNat, v1.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![c0_i32.toNat, c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![c0_i32.toNat, c0_i32_0.toNat, v0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S16384x2048 : Shape := ⟨2, ![16384, 2048]⟩
abbrev S16384x17408 : Shape := ⟨2, ![16384, 17408]⟩
abbrev S16384x1024 : Shape := ⟨2, ![16384, 1024]⟩
abbrev S1x1024 : Shape := ⟨2, ![1, 1024]⟩
abbrev S2x1024x2048 : Shape := ⟨3, ![2, 1024, 2048]⟩
abbrev S2x2048x2048 : Shape := ⟨3, ![2, 2048, 2048]⟩
abbrev S_ : Shape := ⟨0, ![]⟩
abbrev S16384 : Shape := ⟨1, ![16384]⟩
abbrev S16384x1 : Shape := ⟨2, ![16384, 1]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 92
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x17408, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1x1024, .f32⟩
  | .hbm, ⟨6, _⟩ => ⟨S2x1024x2048, .bf16⟩
  | .hbm, ⟨7, _⟩ => ⟨S2x1024x2048, .bf16⟩
  | .hbm, ⟨8, _⟩ => ⟨S2x1024x2048, .bf16⟩
  | .hbm, ⟨9, _⟩ => ⟨S2x2048x2048, .bf16⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x2048, .bf16⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S16384x1024, .f32⟩
  | .hbm, ⟨49, _⟩ => ⟨S1x1024x2048, .bf16⟩
  | .hbm, ⟨50, _⟩ => ⟨S1024x2048, .bf16⟩
  | .hbm, ⟨51, _⟩ => ⟨S1024x2048, .f32⟩
  | .hbm, ⟨52, _⟩ => ⟨S16384x2048, .f32⟩
  | .hbm, ⟨53, _⟩ => ⟨S16384x2048, .f32⟩
  | .hbm, ⟨54, _⟩ => ⟨S16384x2048, .bf16⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384x2048, .f32⟩
  | .hbm, ⟨63, _⟩ => ⟨S16384x2048, .f32⟩
  | .hbm, ⟨64, _⟩ => ⟨S16384x1024, .f32⟩
  | .hbm, ⟨65, _⟩ => ⟨S1x1024x2048, .bf16⟩
  | .hbm, ⟨66, _⟩ => ⟨S1024x2048, .bf16⟩
  | .hbm, ⟨67, _⟩ => ⟨S1024x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .bf16⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S_, .f32⟩
  | .hbm, ⟨76, _⟩ => ⟨S16384x2048, .f32⟩
  | .hbm, ⟨77, _⟩ => ⟨S16384x2048, .f32⟩
  | .hbm, ⟨78, _⟩ => ⟨S_, .f32⟩
  | .hbm, ⟨79, _⟩ => ⟨S16384x2048, .f32⟩
  | .hbm, ⟨80, _⟩ => ⟨S16384x2048, .f32⟩
  | .hbm, ⟨81, _⟩ => ⟨S1x1024x2048, .bf16⟩
  | .hbm, ⟨82, _⟩ => ⟨S1024x2048, .bf16⟩
  | .hbm, ⟨83, _⟩ => ⟨S1024x2048, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S1x2048x2048, .bf16⟩
  | .hbm, ⟨88, _⟩ => ⟨S2048x2048, .bf16⟩
  | .hbm, ⟨89, _⟩ => ⟨S2048x2048, .f32⟩
  | .hbm, ⟨90, _⟩ => ⟨S16384x2048, .f32⟩
  | .hbm, ⟨91, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Proof.HgrnStates.lean ====
/- The counted loop of the recurrence kernel: the state matrices that its trips store, one after the other. -/
module

public import proofs.«01_k».proof.Proof.Gen.KernelIdeal.Loops
public import Idealize.ShloMosaic.Lib.Pipeline.ValueKit
public import Idealize.ShloMosaic.Lib.Pointwise

@[expose] public section

set_option maxRecDepth 16384

noncomputable section

namespace Cert.Hgrn

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F]

/-- Chunk `k`'s decay row. -/
def eRow (E : Vec F S32x1x128 .f32) (k : Fin 32) : Vec F S1x1x128 .f32 := fun j => E (ix3 k (j 1) (j 2))

/-- Chunk `k`'s outer product. -/
def kvRow (KV : Vec F S32x128x128 .f32) (k : Fin 32) : Vec F S1x128x128 .f32 := fun j => KV (ix3 k (j 1) (j 2))

/-- The state before chunk `k`. -/
def acc (E : Vec F S32x1x128 .f32) (KV : Vec F S32x128x128 .f32) : ℕ → FVec F S128x128 .f32
  | 0 => k0_pay3
  | k + 1 => if h : k < 32 then k0_pay5 (acc E KV k) (eRow E ⟨k, h⟩) (kvRow KV ⟨k, h⟩) else acc E KV k

/-- All thirty-two states, as the kernel rounds and keeps them. -/
def states (E : Vec F S32x1x128 .f32) (KV : Vec F S32x128x128 .f32) : Vec F S32x128x128 .bf16 :=
  fun y => k0_pay4 (acc E KV (y 0).val) (ix3 0 (y 1) (y 2))

/-- The numbers of the rows, and of the columns, of a chunk's square of scores. -/
def rowNo : IVec S1x64x64 32 := iota .tc S1x64x64 32 [1] iota_S1x64x64_d1_w32
def colNo : IVec S1x64x64 32 := iota .tc S1x64x64 32 [2] iota_S1x64x64_d2_w32

/-- The numbers of a chunk's positions, one row each. -/
def posNo : IVec S1x64x128 32 := iota .tc S1x64x128 32 [1] iota_S1x64x128_d1_w32

/-- The scores inside the chunks, level by level: the diagonal, then the pairs whose halves part at 64, 32, 16, 8, 4 and 2. -/
def scores64 (q : FVec F S32x64x128 .f32) (l : FVec F S2048x128 .f32) (kk : FVec F S32x64x128 .f32) : FVec F S32x64x64 .f32 := k0_pay16 rowNo colNo (k0_pay14 q kk) (k0_pay15 q l kk)
def scores16 (q : FVec F S32x64x128 .f32) (l : FVec F S2048x128 .f32) (kk : FVec F S32x64x128 .f32) : FVec F S32x64x64 .f32 :=
  k0_pay21 q kk rowNo colNo posNo (k0_pay12 l) (k0_pay13 l) (scores64 q l kk) (k0_pay17 q kk posNo (k0_pay12 l) (k0_pay13 l))
    (k0_pay18 rowNo colNo) (k0_pay19 rowNo) (k0_pay20 colNo)
def scores8 (q : FVec F S32x64x128 .f32) (l : FVec F S2048x128 .f32) (kk : FVec F S32x64x128 .f32) : FVec F S32x64x64 .f32 :=
  k0_pay23 q kk rowNo colNo posNo (k0_pay12 l) (k0_pay13 l) (scores16 q l kk) k0_pay22
def scores4 (q : FVec F S32x64x128 .f32) (l : FVec F S2048x128 .f32) (kk : FVec F S32x64x128 .f32) : FVec F S32x64x64 .f32 :=
  k0_pay26 rowNo colNo posNo (k0_pay12 l) (scores8 q l kk) (k0_pay24 q kk posNo) (k0_pay25 posNo) 1#32

/-- The values read inside the chunks: the scores, the last level added, times the values. -/
def inside (q : FVec F S32x64x128 .f32) (l : FVec F S2048x128 .f32) (kk : FVec F S32x64x128 .f32) (v : FVec F S32x64x128 .bf16) : FVec F S32x64x128 .f32 :=
  k0_pay28 q kk v rowNo colNo posNo (k0_pay12 l) (scores4 q l kk) (k0_pay27 posNo)

/-- The decay of a whole chunk, and what a chunk adds to the state. -/
def decay (l : FVec F S2048x128 .f32) : FVec F S32x1x128 .f32 := k0_pay2 (k0_pay29 (k0_pay12 l))
def added (l : FVec F S2048x128 .f32) (kk : FVec F S32x64x128 .f32) (v : FVec F S32x64x128 .bf16) : FVec F S32x128x128 .f32 := k0_pay1 kk v (k0_pay30 (k0_pay12 l))

/-- One grid point's output block, from its four input blocks. -/
def out (x0 x1 x2 : Vec F S1x2048x128 .bf16) (x3 : Vec F S1x1x128 .f32) : Vec F S1x2048x128 .bf16 :=
  k0_pay6 (k0_pay7 x0) (k0_pay12 (k0_pay9 x3 x1))
    (inside (k0_pay7 x0) (k0_pay9 x3 x1) (k0_pay10 x3 x1) (k0_pay11 x2))
    (states (decay (k0_pay9 x3 x1)) (added (k0_pay9 x3 x1) (k0_pay10 x3 x1) (k0_pay11 x2)))

theorem trips : k0_t1_loop.trips = 32 := by decide +kernel

theorem off1 : ∀ (k : Fin k0_t1_loop.trips) (a : Fin 3), k0_off1 k a = ![k.val, 0, 0] a := by decide +kernel

theorem off2 : ∀ (k : Fin k0_t1_loop.trips) (a : Fin 3), k0_off2 k a = ![k.val, 0, 0] a := by decide +kernel

/-- A trip's number as a chunk. -/
def chunk (k : Fin k0_t1_loop.trips) : Fin 32 := ⟨k.val, Nat.lt_of_lt_of_le k.isLt k0_t1_abs.2.1⟩

/-- Where a trip's rectangle of the states places an index. -/
theorem emb1 (k : Fin k0_t1_loop.trips) (x : S1x128x128.Idx) :
    (Rect.unit (s := S32x128x128) (k0_off1 k) S1x128x128.size (k0_off1_inb k)).emb x = ix3 (chunk k) (x 1) (x 2) :=
  funext fun a => Fin.ext <| by
    have h := off1 k a
    have h0 : (x 0).val < 1 := (x 0).isLt
    show k0_off1 k a + 1 * (x a).val = _
    rw [h]
    fin_cases a
    · show k.val + 1 * (x 0).val = k.val
      omega
    · show 0 + 1 * (x 1).val = (x 1).val
      omega
    · show 0 + 1 * (x 2).val = (x 2).val
      omega

/-- Where a trip's rectangle of the decay rows places an index. -/
theorem emb2 (k : Fin k0_t1_loop.trips) (x : S1x1x128.Idx) :
    (Rect.unit (s := S32x1x128) (k0_off2 k) S1x1x128.size (k0_off2_inb k)).emb x = ix3 (chunk k) (x 1) (x 2) :=
  funext fun a => Fin.ext <| by
    have h := off2 k a
    have h0 : (x 0).val < 1 := (x 0).isLt
    show k0_off2 k a + 1 * (x a).val = _
    rw [h]
    fin_cases a
    · show k.val + 1 * (x 0).val = k.val
      omega
    · show 0 + 1 * (x 1).val = (x 1).val
      omega
    · show 0 + 1 * (x 2).val = (x 2).val
      omega

section
variable (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x1x128 .f32) (harg5 : arg5.IsWhole) (arg6 : Memref sig .tc .vmem S1x2048x128 .bf16) (harg6 : arg6.IsWhole) (arg7 : Memref sig .tc .vmem S32x128x128 .f32) (harg7 : arg7.IsWhole) (arg8 : Memref sig .tc .vmem S32x128x128 .bf16) (harg8 : arg8.IsWhole) (arg9 : Memref sig .tc .vmem S32x1x128 .f32) (harg9 : arg9.IsWhole)
    (X7 : BufTy.Contents (Elt F) arg7.view.ty) (X9 : BufTy.Contents (Elt F) arg9.view.ty)

/-- What one trip carries on: the state decayed by the chunk's row, and the chunk's outer product added. -/
theorem trip_result (E : Vec F S32x1x128 .f32) (KV : Vec F S32x128x128 .f32) (h7 : arg7.view.read (Elt F) X7 = KV)
    (h9 : arg9.view.read (Elt F) X9 = E) (k : Fin k0_t1_loop.trips) (a : FVec F S128x128 .f32) :
    tripR_k0_t1 (F := F) 𝒱 c bd i arg2 harg2 arg3 harg3 arg4 harg4 arg5 harg5 arg6 harg6 arg7 harg7 arg8 harg8 arg9 harg9 X7 X9 k a
      = k0_pay5 a (eRow E (chunk k)) (kvRow KV (chunk k)) := by
  have e9 : (View.readAt (Elt F) arg9.view (Rect.unit (s := S32x1x128) (k0_off2 k) S1x1x128.size (k0_off2_inb k)).toLoadRect X9) = eRow E (chunk k) := by
    funext x
    rw [View.readAt_apply, h9]
    exact congrArg E (emb2 k x)
  have e7 : (View.readAt (Elt F) arg7.view (Rect.unit (s := S32x128x128) (k0_off1 k) S1x128x128.size (k0_off1_inb k)).toLoadRect X7) = kvRow KV (chunk k) := by
    funext x
    rw [View.readAt_apply, h7]
    exact congrArg KV (emb1 k x)
  rw [← e9, ← e7]
  unfold tripR_k0_t1 trip_k0_t1
  rfl

/-- What one trip stores: the state it came with, at its own place. -/
theorem trip_stores (k : Fin k0_t1_loop.trips) (a : FVec F S128x128 .f32) :
    tripL_k0_t1 (F := F) 𝒱 c bd i arg2 harg2 arg3 harg3 arg4 harg4 arg5 harg5 arg6 harg6 arg7 harg7 arg8 harg8 arg9 harg9 X7 X9 k a
      = [⟨Rect.unit (s := S32x128x128) (k0_off1 k) S1x128x128.size (k0_off1_inb k), k0_pay4 a⟩] := by
  unfold tripL_k0_t1 trip_k0_t1
  rfl

/-- Before trip `k` the loop carries the state before chunk `k`, and has stored every earlier one. -/
theorem loop_state (E : Vec F S32x1x128 .f32) (KV : Vec F S32x128x128 .f32) (h7 : arg7.view.read (Elt F) X7 = KV)
    (h9 : arg9.view.read (Elt F) X9 = E) : ∀ k : ℕ, k ≤ 32 →
    (st_k0_t1 (F := F) 𝒱 c bd i arg2 harg2 arg3 harg3 arg4 harg4 arg5 harg5 arg6 harg6 arg7 harg7 arg8 harg8 arg9 harg9 X7 X9 k0_pay3 k).1 = acc E KV k
    ∧ (∀ p ∈ (st_k0_t1 (F := F) 𝒱 c bd i arg2 harg2 arg3 harg3 arg4 harg4 arg5 harg5 arg6 harg6 arg7 harg7 arg8 harg8 arg9 harg9 X7 X9 k0_pay3 k).2,
        ∀ x : p.1.shape.Idx, p.2 x = states E KV (p.1.emb x))
    ∧ ∀ y : S32x128x128.Idx, (y 0).val < k → ∃ p ∈ (st_k0_t1 (F := F) 𝒱 c bd i arg2 harg2 arg3 harg3 arg4 harg4 arg5 harg5 arg6 harg6 arg7 harg7 arg8 harg8 arg9 harg9 X7 X9 k0_pay3 k).2, y ∈ p.1.set := by
  intro k
  induction k with
  | zero => exact fun _ => ⟨rfl, fun p hp => absurd hp List.not_mem_nil, fun y hy => absurd hy (Nat.not_lt_zero _)⟩
  | succ k ih =>
    intro hk
    obtain ⟨h1, h2, h3⟩ := ih (by omega)
    have hk' : k < k0_t1_loop.trips := by rw [trips]; omega
    have hs := st_k0_t1_succ (F := F) 𝒱 c bd i arg2 harg2 arg3 harg3 arg4 harg4 arg5 harg5 arg6 harg6 arg7 harg7 arg8 harg8 arg9 harg9 X7 X9 k0_pay3 ⟨k, hk'⟩
    rw [trip_result 𝒱 c bd i arg2 harg2 arg3 harg3 arg4 harg4 arg5 harg5 arg6 harg6 arg7 harg7 arg8 harg8 arg9 harg9 X7 X9 E KV h7 h9,
      trip_stores] at hs
    dsimp only at hs
    rw [h1] at hs
    rw [hs]
    refine ⟨?_, ?_, ?_⟩
    · show _ = acc E KV (k + 1)
      rw [acc, dif_pos (show k < 32 from hk)]
      rfl
    · intro p hp x
      rcases List.mem_cons.mp hp with rfl | hp'
      · show k0_pay4 (acc E KV k) x = states E KV _
        refine Eq.trans ?_ (congrArg (states E KV) (emb1 ⟨k, hk'⟩ x)).symm
        unfold states
        refine congrArg (k0_pay4 (acc E KV k)) ?_
        funext a
        fin_cases a
        · exact Fin.ext (Nat.lt_one_iff.mp (x 0).isLt)
        · rfl
        · rfl
      · exact h2 p hp' x
    · intro y hy
      by_cases hyk : (y 0).val < k
      · obtain ⟨p, hp, hm⟩ := h3 y hyk
        exact ⟨p, List.mem_cons_of_mem _ hp, hm⟩
      · refine ⟨_, List.mem_cons_self, ?_⟩
        have e := emb1 ⟨k, hk'⟩ (ix3 0 (y 1) (y 2))
        have e' : ix3 (chunk ⟨k, hk'⟩) (y 1) (y 2) = y := by
          funext a
          fin_cases a
          · exact Fin.ext (by show k = (y 0).val; omega)
          · rfl
          · rfl
        rw [← Rect.map_emb_univ]
        exact Finset.mem_map.mpr ⟨ix3 0 (y 1) (y 2), Finset.mem_univ _, e.trans e'⟩

/-- So after the loop the buffer holds all the states, whatever it held before. -/
theorem loop_read (G : BufTy.Contents (Elt F) arg8.view.ty) (E : Vec F S32x1x128 .f32) (KV : Vec F S32x128x128 .f32)
    (h7 : arg7.view.read (Elt F) X7 = KV) (h9 : arg9.view.read (Elt F) X9 = E) :
    arg8.view.read (Elt F) (arg8.view.writes (Elt F) G (st_k0_t1 (F := F) 𝒱 c bd i arg2 harg2 arg3 harg3 arg4 harg4 arg5 harg5 arg6 harg6 arg7 harg7 arg8 harg8 arg9 harg9 X7 X9 k0_pay3
      (Scf.trips k0_t1_loop.lb k0_t1_loop.ub k0_t1_loop.st)).2) = states E KV := by
  obtain ⟨-, h2, h3⟩ := loop_state 𝒱 c bd i arg2 harg2 arg3 harg3 arg4 harg4 arg5 harg5 arg6 harg6 arg7 harg7 arg8 harg8 arg9 harg9 X7 X9 E KV h7 h9 32 le_rfl
  have e : Scf.trips k0_t1_loop.lb k0_t1_loop.ub k0_t1_loop.st = 32 := by decide +kernel
  rw [e]
  exact funext fun y => View.read_writes_apply_of_pieces _ _ _ _ h2 y (h3 y (y 0).isLt)

end

end Cert.Hgrn

end
-- ==== Proof.HgrnScore.lean ====
/- The scores inside a chunk: the kernel's levels of halves together are the causal scores, each pair decayed by the positions between. -/
module

public import proofs.«01_k».proof.Proof.HgrnStates

@[expose] public section

set_option maxRecDepth 16384

noncomputable section

namespace Cert.Hgrn

open Idealize.ShloMosaic Idealize.ShloMosaic.TcCoe Idealize.ShloMosaic.Tactic
open Cert.KernelIdeal Cert.KernelIdeal.Gen

/-- A query decayed up to a middle and a key decayed from it, the middle between them: together decayed the whole way. -/
theorem meet (q k : EReal) {bt bm bs : ℝ} (h1 : bt ≤ bm) (h2 : bm ≤ bs) :
    q * Ideal.exp (0 - FloatOps.absf (F := Ideal) (φ := .f32) ((bt : EReal) - (bm : EReal)))
        * (k * Ideal.exp (0 - FloatOps.absf (F := Ideal) (φ := .f32) ((bs : EReal) - (bm : EReal))))
      = q * k * Ideal.exp ((bt : EReal) - (bs : EReal)) := by
  have e1 : FloatOps.absf (F := Ideal) (φ := .f32) ((bt : EReal) - (bm : EReal)) = ((bm - bt : ℝ) : EReal) := by
    rw [Ideal.absf_def, ← EReal.coe_sub, ← EReal.coe_neg, max_eq_right (EReal.coe_le_coe_iff.mpr (by linarith)), neg_sub]
  have e2 : FloatOps.absf (F := Ideal) (φ := .f32) ((bs : EReal) - (bm : EReal)) = ((bs - bm : ℝ) : EReal) := by
    rw [Ideal.absf_def, ← EReal.coe_sub, ← EReal.coe_neg, max_eq_left (EReal.coe_le_coe_iff.mpr (by linarith))]
  rw [e1, e2, mul_mul_mul_comm, zero_sub, zero_sub, ← EReal.coe_neg, ← EReal.coe_neg, ← EReal.coe_sub, Ideal.exp_coe, Ideal.exp_coe,
    Ideal.exp_coe, ← EReal.coe_mul, ← Real.exp_add]
  congr 3
  ring

/-- The causal score of two positions of a chunk. -/
def weight (Q K : Fin 64 → Fin 128 → EReal) (B : Fin 64 → Fin 128 → ℝ) (t s : Fin 64) : EReal :=
  if s ≤ t then ∑ x, Q t x * K s x * Ideal.exp ((B t x : EReal) - (B s x : EReal)) else 0

/-- What a level makes of a position: its query or its key, as it lies in the upper or the lower half, decayed to the middle. -/
def half (c : Fin 64 → BitVec 1) (μ : Fin 64 → Fin 64) (Q K : Fin 64 → Fin 128 → EReal) (B : Fin 64 → Fin 128 → ℝ) (t : Fin 64) (x : Fin 128) : EReal :=
  Scalar.select (c t) (Q t x) (K t x) * Ideal.exp (0 - FloatOps.absf (F := Ideal) (φ := .f32) ((B t x : EReal) - (B (μ t) x : EReal)))

/-- The product of a position of an upper half with one of its lower half is their causal score. -/
theorem level (c : Fin 64 → BitVec 1) (μ : Fin 64 → Fin 64) (Q K : Fin 64 → Fin 128 → EReal) (B : Fin 64 → Fin 128 → ℝ)
    (hB : ∀ x s t, s ≤ t → B t x ≤ B s x) (t s : Fin 64)
    (h : c t = 1 ∧ c s ≠ 1 ∧ μ t = μ s ∧ s ≤ μ s ∧ μ t ≤ t) :
    ∑ x, half c μ Q K B t x * half c μ Q K B s x = weight Q K B t s := by
  obtain ⟨ht, hs, hμ, h1, h2⟩ := h
  unfold weight
  rw [if_pos (h1.trans (hμ ▸ h2))]
  refine Finset.sum_congr rfl fun x _ => ?_
  unfold half Scalar.select
  rw [if_pos ht, if_neg hs, hμ]
  exact meet _ _ (hB x _ _ (hμ ▸ h2)) (hB x _ _ h1)

/-- Whether a position lies in the upper half of its block of `a + 1`, -/
def hi (a h : BitVec 32) (t : Fin 64) : BitVec 1 := IntOp.cmpi .sge (IntOp.andi (BitVec.ofNat 32 t) a) h

/-- or in the lower, -/
def lo (a h : BitVec 32) (t : Fin 64) : BitVec 1 := IntOp.cmpi .slt (IntOp.andi (BitVec.ofNat 32 t) a) h

/-- whether two positions lie in one block, -/
def together (w : BitVec 32) (t s : Fin 64) : BitVec 1 := IntOp.cmpi .eq (IntOp.andi (BitVec.ofNat 32 t) w) (IntOp.andi (BitVec.ofNat 32 s) w)

/-- and both: the pairs a level scores. -/
def pairs (a h w : BitVec 32) (t s : Fin 64) : BitVec 1 := IntOp.andi (IntOp.andi (hi a h t) (lo a h s)) (together w t s)
def pairs64 (t s : Fin 64) : BitVec 1 := IntOp.andi (hi 63#32 32#32 t) (lo 63#32 32#32 s)

/-- The middle of a position's block of `2 * h`. -/
def mid (h : ℕ) (t : Fin 64) : Fin 64 := ⟨(t.val / (2 * h) * (2 * h) + h) % 64, Nat.mod_lt _ (by norm_num)⟩

theorem pairs64_spec : ∀ t s : Fin 64, pairs64 t s = 1 →
    hi 63#32 32#32 t = 1 ∧ hi 63#32 32#32 s ≠ 1 ∧ mid 32 t = mid 32 s ∧ s ≤ mid 32 s ∧ mid 32 t ≤ t := by decide +kernel

theorem pairs32_spec : ∀ t s : Fin 64, pairs 31#32 16#32 4294967264#32 t s = 1 →
    hi 31#32 16#32 t = 1 ∧ hi 31#32 16#32 s ≠ 1 ∧ mid 16 t = mid 16 s ∧ s ≤ mid 16 s ∧ mid 16 t ≤ t := by decide +kernel

theorem pairs16_spec : ∀ t s : Fin 64, pairs 15#32 8#32 4294967280#32 t s = 1 →
    hi 15#32 8#32 t = 1 ∧ hi 15#32 8#32 s ≠ 1 ∧ mid 8 t = mid 8 s ∧ s ≤ mid 8 s ∧ mid 8 t ≤ t := by decide +kernel

theorem pairs8_spec : ∀ t s : Fin 64, pairs 7#32 4#32 4294967288#32 t s = 1 →
    hi 7#32 4#32 t = 1 ∧ hi 7#32 4#32 s ≠ 1 ∧ mid 4 t = mid 4 s ∧ s ≤ mid 4 s ∧ mid 4 t ≤ t := by decide +kernel

theorem pairs4_spec : ∀ t s : Fin 64, pairs 3#32 2#32 4294967292#32 t s = 1 →
    hi 3#32 2#32 t = 1 ∧ hi 3#32 2#32 s ≠ 1 ∧ mid 2 t = mid 2 s ∧ s ≤ mid 2 s ∧ mid 2 t ≤ t := by decide +kernel

theorem pairs2_spec : ∀ t s : Fin 64, pairs 1#32 1#32 4294967294#32 t s = 1 →
    hi 1#32 1#32 t = 1 ∧ hi 1#32 1#32 s ≠ 1 ∧ mid 1 t = mid 1 s ∧ s ≤ mid 1 s ∧ mid 1 t ≤ t := by decide +kernel

/-- Every pair with the later position as the query is scored by some level. -/
theorem covered : ∀ t s : Fin 64, s < t → pairs64 t s = 1 ∨ pairs 31#32 16#32 4294967264#32 t s = 1 ∨ pairs 15#32 8#32 4294967280#32 t s = 1
    ∨ pairs 7#32 4#32 4294967288#32 t s = 1 ∨ pairs 3#32 2#32 4294967292#32 t s = 1 ∨ pairs 1#32 1#32 4294967294#32 t s = 1 := by decide +kernel

/-- The diagonal, as the kernel tests for it. -/
theorem diag_iff : ∀ t s : Fin 64, IntOp.cmpi .eq (BitVec.ofNat 32 t.val) (BitVec.ofNat 32 s.val) = 1 ↔ t = s := by decide +kernel

/-- The levels one over the other, whatever they score, once each scores its pairs as causal scores: the causal scores. -/
theorem nested (Q K : Fin 64 → Fin 128 → EReal) (B : Fin 64 → Fin 128 → ℝ) (t s : Fin 64) (p64 p32 p16 p8 p4 p2 : EReal)
    (h64 : pairs64 t s = 1 → p64 = weight Q K B t s)
    (h32 : pairs 31#32 16#32 4294967264#32 t s = 1 → p32 = weight Q K B t s)
    (h16 : pairs 15#32 8#32 4294967280#32 t s = 1 → p16 = weight Q K B t s)
    (h8 : pairs 7#32 4#32 4294967288#32 t s = 1 → p8 = weight Q K B t s)
    (h4 : pairs 3#32 2#32 4294967292#32 t s = 1 → p4 = weight Q K B t s)
    (h2 : pairs 1#32 1#32 4294967294#32 t s = 1 → p2 = weight Q K B t s) :
    Scalar.select (pairs 1#32 1#32 4294967294#32 t s) p2 (Scalar.select (pairs 3#32 2#32 4294967292#32 t s) p4
      (Scalar.select (pairs 7#32 4#32 4294967288#32 t s) p8 (Scalar.select (pairs 15#32 8#32 4294967280#32 t s) p16
        (Scalar.select (pairs 31#32 16#32 4294967264#32 t s) p32 (Scalar.select (pairs64 t s) p64
          (Scalar.select (IntOp.cmpi .eq (BitVec.ofNat 32 t.val) (BitVec.ofNat 32 s.val)) (∑ x, Q t x * K t x) 0))))))
      = weight Q K B t s := by
  unfold Scalar.select
  by_cases c2 : pairs 1#32 1#32 4294967294#32 t s = 1
  · rw [if_pos c2, h2 c2]
  rw [if_neg c2]
  by_cases c4 : pairs 3#32 2#32 4294967292#32 t s = 1
  · rw [if_pos c4, h4 c4]
  rw [if_neg c4]
  by_cases c8 : pairs 7#32 4#32 4294967288#32 t s = 1
  · rw [if_pos c8, h8 c8]
  rw [if_neg c8]
  by_cases c16 : pairs 15#32 8#32 4294967280#32 t s = 1
  · rw [if_pos c16, h16 c16]
  rw [if_neg c16]
  by_cases c32 : pairs 31#32 16#32 4294967264#32 t s = 1
  · rw [if_pos c32, h32 c32]
  rw [if_neg c32]
  by_cases c64 : pairs64 t s = 1
  · rw [if_pos c64, h64 c64]
  rw [if_neg c64]
  have hst : t ≤ s := by
    by_contra hlt
    rcases covered t s (not_le.mp hlt) with h | h | h | h | h | h
    · exact c64 h
    · exact c32 h
    · exact c16 h
    · exact c8 h
    · exact c4 h
    · exact c2 h
  unfold weight
  by_cases hts : t = s
  · subst hts
    rw [if_pos ((diag_iff t t).mpr rfl), if_pos le_rfl]
    refine Finset.sum_congr rfl fun x _ => ?_
    rw [← EReal.coe_sub, sub_self, Ideal.exp_coe, Real.exp_zero, EReal.coe_one, mul_one]
  · rw [if_neg fun h => hts ((diag_iff t s).mp h), if_neg fun h => hts (le_antisymm hst h)]

end Cert.Hgrn

end
-- ==== Proof.HgrnPay.lean ====
/- The recurrence kernel's payloads over the extended reals, entry by entry. -/
module

public import proofs.«01_k».proof.Proof.HgrnScore

@[expose] public section

set_option maxRecDepth 16384

noncomputable section

namespace Cert.Hgrn

open Idealize.ShloMosaic Idealize.ShloMosaic.TcCoe Idealize.ShloMosaic.Tactic
open Cert.KernelIdeal Cert.KernelIdeal.Gen

/-- The running sums of a chunk's gate logarithms. -/
def runSum (L : Fin 64 → Fin 128 → ℝ) (t : Fin 64) (x : Fin 128) : ℝ := ∑ s : Fin 64, if s ≤ t then L s x else 0

/-- With logarithms of gates, the running sums do not rise. -/
theorem runSum_anti (L : Fin 64 → Fin 128 → ℝ) (hL : ∀ s x, L s x ≤ 0) (x : Fin 128) (s t : Fin 64) (h : s ≤ t) :
    runSum L t x ≤ runSum L s x := by
  refine Finset.sum_le_sum fun u _ => ?_
  by_cases hs : u ≤ s
  · rw [if_pos hs, if_pos (hs.trans h)]
  · rw [if_neg hs]
    split
    · exact hL u x
    · exact le_rfl

/-- The kernel's test whether a position is not later. -/
theorem later_iff : ∀ t s : Fin 64, IntOp.cmpi .sge (BitVec.ofNat 32 t.val) (BitVec.ofNat 32 s.val) = 1 ↔ s ≤ t := by decide +kernel

/-- A sum of reals among the extended reals. -/
theorem coe_sum {ι : Type} (S : Finset ι) (f : ι → ℝ) : ((∑ i ∈ S, f i : ℝ) : EReal) = ∑ i ∈ S, (f i : EReal) := by
  classical
  induction S using Finset.induction_on with
  | empty => rw [Finset.sum_empty, Finset.sum_empty, EReal.coe_zero]
  | insert a S h ih => rw [Finset.sum_insert h, Finset.sum_insert h, EReal.coe_add, ih]

/-- A sum of reals, some of them left out. -/
theorem coe_sum_if {n : ℕ} (f : Fin n → ℝ) (p : Fin n → Prop) [DecidablePred p] :
    ((∑ s, if p s then f s else 0 : ℝ) : EReal) = ∑ s, if p s then (f s : EReal) else 0 := by
  rw [coe_sum]
  refine Finset.sum_congr rfl fun s _ => ?_
  split
  · rfl
  · exact EReal.coe_zero

/-- The kernel's running sums: a real matrix of ones and zeros times the logarithms, and the same of a remainder that is zero. -/
theorem pay12_value (l : FVec Ideal S2048x128 .f32) (n : Fin 32) (L : Fin 64 → Fin 128 → ℝ)
    (hl : ∀ (s : Fin 64) x, l (ix2 ⟨n.val * 64 + s.val, by omega⟩ x) = (L s x : EReal)) (t : Fin 64) (x : Fin 128) :
    k0_pay12 l (ix3 n t x) = (runSum L t x : EReal) := by
  pointwise [k0_pay12]
  unfold runSum
  rw [coe_sum_if]
  have hz : ∀ u : Fin 64, Scalar.select (IntOp.cmpi .sge (BitVec.ofNat 32 t.val) (BitVec.ofNat 32 u.val))
      (l (ix2 ⟨n.val * 64 + u.val, by omega⟩ x) - l (ix2 ⟨n.val * 64 + u.val, by omega⟩ x) : EReal) 0 = 0 := by
    intro u
    unfold Scalar.select
    split
    · rw [hl, ← EReal.coe_sub, sub_self, EReal.coe_zero]
    · rfl
  refine (congrArg₂ (· + ·) ?_ (Finset.sum_eq_zero fun u _ => hz u)).trans (add_zero _)
  refine Finset.sum_congr rfl fun u _ => ?_
  unfold Scalar.select
  rw [if_congr (later_iff t u) (hl u x) rfl]

section
variable (q kk : FVec Ideal S32x64x128 .f32) (l : FVec Ideal S2048x128 .f32) (n : Fin 32)
    (Q K : Fin 64 → Fin 128 → EReal) (B : Fin 64 → Fin 128 → ℝ)
    (hq : ∀ t x, q (ix3 n t x) = Q t x) (hk : ∀ t x, kk (ix3 n t x) = K t x)
    (hb : ∀ t x, k0_pay12 l (ix3 n t x) = (B t x : EReal))
include hq hk hb

/-- The flat copy of the running sums at row `r`. -/
theorem flat_value (t : Fin 64) (r : Fin 2048) (hr : r.val = n.val * 64 + t.val) (x : Fin 128) : k0_pay13 l (ix2 r x) = (B t x : EReal) := by
  pointwise [k0_pay13]
  refine Eq.trans (congrArg (k0_pay12 l) ?_) (hb t x)
  refine congrArg₂ (fun a b => ix3 a b x) (Fin.ext ?_) (Fin.ext ?_)
  · show r.val / 64 = n.val; omega
  · show r.val % 64 = t.val; omega

/-- The first level's halves, -/
theorem pay15_value (t : Fin 64) (x : Fin 128) : k0_pay15 q l kk (ix3 n t x) = half (hi 63#32 32#32) (mid 32) Q K B t x := by
  have hm : mid 32 t = 32 := Fin.ext (by show (t.val / 64 * 64 + 32) % 64 = 32; omega)
  pointwise [k0_pay15, k0_pay13]
  unfold half
  rw [hq, hk, hb, hb, hm]
  rfl

/-- the second's. -/
theorem pay17_value (t : Fin 64) (x : Fin 128) :
    k0_pay17 q kk posNo (k0_pay12 l) (k0_pay13 l) (ix3 n t x) = half (hi 31#32 16#32) (mid 16) Q K B t x := by
  pointwise [k0_pay17, posNo]
  unfold half
  rw [flat_value q kk l n Q K B hq hk hb (mid 16 t) _ (by show (n.val * 2 + t.val / 32) * 32 + 16 = n.val * 64 + (t.val / 32 * 32 + 16) % 64; omega),
    hq, hk, hb]
  rfl

/-- The levels down to sixteen. -/
theorem scores16_value (t s : Fin 64) : scores16 q l kk (ix3 n t s)
    = Scalar.select (pairs 15#32 8#32 4294967280#32 t s) (∑ x, half (hi 15#32 8#32) (mid 8) Q K B t x * half (hi 15#32 8#32) (mid 8) Q K B s x)
        (Scalar.select (pairs 31#32 16#32 4294967264#32 t s) (∑ x, half (hi 31#32 16#32) (mid 16) Q K B t x * half (hi 31#32 16#32) (mid 16) Q K B s x)
          (Scalar.select (pairs64 t s) (∑ x, half (hi 63#32 32#32) (mid 32) Q K B t x * half (hi 63#32 32#32) (mid 32) Q K B s x)
            (Scalar.select (IntOp.cmpi .eq (BitVec.ofNat 32 t.val) (BitVec.ofNat 32 s.val)) (∑ x, Q t x * K t x) 0))) := by
  have e64 : scores64 q l kk (ix3 n t s) = Scalar.select (pairs64 t s)
      (∑ x, half (hi 63#32 32#32) (mid 32) Q K B t x * half (hi 63#32 32#32) (mid 32) Q K B s x)
      (Scalar.select (IntOp.cmpi .eq (BitVec.ofNat 32 t.val) (BitVec.ofNat 32 s.val)) (∑ x, Q t x * K t x) 0) := by
    have e14 : k0_pay14 q kk (ix3 n t s) = Scalar.select (IntOp.cmpi .eq (BitVec.ofNat 32 t.val) (BitVec.ofNat 32 s.val)) (∑ x, Q t x * K t x) 0 := by
      pointwise [k0_pay14]
      simp only [hq, hk]
    rw [← e14]
    unfold scores64
    simp only [← pay15_value q kk l n Q K B hq hk hb]
    pointwise [k0_pay16, rowNo, colNo]
    rfl
  rw [← e64]
  unfold scores16
  simp only [← pay17_value q kk l n Q K B hq hk hb]
  generalize k0_pay17 q kk posNo (k0_pay12 l) (k0_pay13 l) = x16
  have hf := fun (t : Fin 64) r hr x => flat_value q kk l n Q K B hq hk hb t r hr x
  pointwise [k0_pay21, k0_pay18, k0_pay19, k0_pay20, posNo, rowNo, colNo]
  have e : ∀ (t : Fin 64) (x : Fin 128), half (hi 15#32 8#32) (mid 8) Q K B t x
      = Scalar.select (IntOp.cmpi .sge (IntOp.andi (BitVec.ofNat 32 t.val) 15#32) 8#32) (q (ix3 n t x)) (kk (ix3 n t x))
        * Ideal.exp (0 - FloatOps.absf (F := Ideal) (φ := .f32) (k0_pay12 l (ix3 n t x) - k0_pay13 l (ix2 ⟨(n.val * 4 + t.val / 16) * 16 + 8, by omega⟩ x))) := by
    intro t x
    rw [hf (mid 8 t) _ (by show (n.val * 4 + t.val / 16) * 16 + 8 = n.val * 64 + (t.val / 16 * 16 + 8) % 64; omega), hq, hk, hb]
    rfl
  simp only [e]
  rfl

/-- The level of eight over those. -/
theorem scores8_value (t s : Fin 64) : scores8 q l kk (ix3 n t s)
    = Scalar.select (pairs 7#32 4#32 4294967288#32 t s) (∑ x, half (hi 7#32 4#32) (mid 4) Q K B t x * half (hi 7#32 4#32) (mid 4) Q K B s x)
        (scores16 q l kk (ix3 n t s)) := by
  unfold scores8
  generalize scores16 q l kk = sc
  have hf := fun (t : Fin 64) r hr x => flat_value q kk l n Q K B hq hk hb t r hr x
  pointwise [k0_pay23, k0_pay22, posNo, rowNo, colNo]
  have e : ∀ (t : Fin 64) (x : Fin 128), half (hi 7#32 4#32) (mid 4) Q K B t x
      = Scalar.select (IntOp.cmpi .sge (IntOp.andi (BitVec.ofNat 32 t.val) 7#32) 4#32) (q (ix3 n t x)) (kk (ix3 n t x))
        * Ideal.exp (0 - FloatOps.absf (F := Ideal) (φ := .f32) (k0_pay12 l (ix3 n t x) - k0_pay13 l (ix2 ⟨(n.val * 8 + t.val / 8) * 8 + 4, by omega⟩ x))) := by
    intro t x
    rw [hf (mid 4 t) _ (by show (n.val * 8 + t.val / 8) * 8 + 4 = n.val * 64 + (t.val / 8 * 8 + 4) % 64; omega), hq, hk, hb]
    rfl
  simp only [e]
  rfl

end

end Cert.Hgrn

end
-- ==== Proof.HgrnSpec.lean ====
/- One head's recurrence as mathematics: the gates, the decayed products inside a chunk and the state carried between chunks. Both programs are shown to compute `chunkOut`. -/
module

public import proofs.«01_k».proof.Proof.HgrnPay

@[expose] public section

set_option maxRecDepth 16384

noncomputable section

namespace Cert.Hgrn

open Idealize.ShloMosaic

/-- The sigmoid. -/
def sigm (x : EReal) : EReal := Ideal.div 1 (1 + Ideal.exp (-x))

/-- The forget gate over its lower bound. -/
def gate (a x : EReal) : EReal := a + (1 - a) * sigm x

/-- The smallest gate whose logarithm is taken. -/
def floor : EReal := Ideal.ofBits FTy.f32 228737632#32

/-- The gate's logarithm. -/
def gateLog (a x : EReal) : EReal := Ideal.log (max (gate a x) floor)

/-- A sigmoid is a real number between zero and one. -/
theorem sigm_real (x : EReal) : ∃ s : ℝ, 0 ≤ s ∧ s ≤ 1 ∧ sigm x = (s : EReal) := by
  unfold sigm
  induction x using EReal.rec with
  | bot =>
    refine ⟨0, le_rfl, zero_le_one, ?_⟩
    rw [EReal.neg_bot, Ideal.exp_top]
    have h : (1 : EReal) + ⊤ = ⊤ := EReal.coe_add_top 1
    rw [h]
    unfold Ideal.div
    rw [if_neg (by decide), EReal.inv_top, mul_zero, EReal.coe_zero]
  | coe r =>
    have hp : (0 : ℝ) < 1 + Real.exp (-r) := by positivity
    refine ⟨1 / (1 + Real.exp (-r)), by positivity, ?_, ?_⟩
    · rw [div_le_one hp]
      exact le_add_of_nonneg_right (Real.exp_pos _).le
    · rw [← EReal.coe_neg, Ideal.exp_coe, ← EReal.coe_one, ← EReal.coe_add, Ideal.div_coe hp.ne', EReal.coe_one, one_mul]
  | top =>
    refine ⟨1, zero_le_one, le_rfl, ?_⟩
    rw [EReal.neg_top, Ideal.exp_bot, add_zero, ← EReal.coe_one, Ideal.div_coe one_ne_zero, div_one, EReal.coe_one, one_mul]

/-- The floor is a positive real number below one. -/
theorem floor_real : ∃ c : ℝ, 0 < c ∧ c ≤ 1 ∧ floor = (c : EReal) := by
  refine ⟨10633824 / 2 ^ 123, by norm_num, by norm_num, ?_⟩
  unfold floor
  simp [Ideal.ofBits, Ideal.ieee, -EReal.coe_mul]
  norm_num

/-- Over a lower bound between zero and one, the gate is a real number between zero and one. -/
theorem gate_real (a x : EReal) (h0 : 0 ≤ a) (h1 : a ≤ 1) : ∃ f : ℝ, 0 ≤ f ∧ f ≤ 1 ∧ gate a x = (f : EReal) := by
  obtain ⟨s, s0, s1, hs⟩ := sigm_real x
  induction a using EReal.rec with
  | bot => exact absurd h0 (by simp)
  | top => exact absurd h1 (not_le.mpr (EReal.coe_lt_top 1))
  | coe r =>
    have r0 : 0 ≤ r := by exact_mod_cast h0
    have r1 : r ≤ 1 := by exact_mod_cast h1
    refine ⟨r + (1 - r) * s, by nlinarith, by nlinarith, ?_⟩
    unfold gate
    rw [hs, ← EReal.coe_one, ← EReal.coe_sub, ← EReal.coe_mul, ← EReal.coe_add]

/-- So its logarithm is a real number that is not positive. -/
theorem gateLog_real (a x : EReal) (h0 : 0 ≤ a) (h1 : a ≤ 1) :
    gateLog a x = ((gateLog a x).toReal : EReal) ∧ (gateLog a x).toReal ≤ 0 := by
  obtain ⟨f, f0, f1, hf⟩ := gate_real a x h0 h1
  obtain ⟨c, c0, c1, hc⟩ := floor_real
  have hm : 0 < max f c := lt_max_of_lt_right c0
  have e : gateLog a x = ((Real.log (max f c) : ℝ) : EReal) := by
    unfold gateLog
    rw [hf, hc, ← EReal.coe_strictMono.monotone.map_max, Ideal.log_coe, if_neg (not_le.mpr hm)]
  rw [e, EReal.toReal_coe]
  exact ⟨rfl, Real.log_nonpos hm.le (max_le f1 c1)⟩

section

variable (Q K V : Fin 32 → Fin 64 → Fin 128 → EReal) (B : Fin 32 → Fin 64 → Fin 128 → ℝ)

/-- The state before a chunk, value coordinate first: decayed over each chunk passed, and the chunk's key and value products added. -/
def carried : ℕ → Fin 128 → Fin 128 → EReal
  | 0 => fun _ _ => 0
  | k + 1 => fun e d => if h : k < 32 then
      carried k e d * Ideal.exp (B ⟨k, h⟩ 63 d : EReal)
        + ∑ s, V ⟨k, h⟩ s e * (K ⟨k, h⟩ s d * Ideal.exp ((B ⟨k, h⟩ 63 d : EReal) - B ⟨k, h⟩ s d))
    else carried k e d

/-- One row of a chunk's output: the decayed products with the chunk's own rows, and the decayed query against the state. -/
def chunkOut (n : Fin 32) (t : Fin 64) (e : Fin 128) : EReal :=
  ∑ s, weight (Q n) (K n) (B n) t s * V n s e + ∑ x, Q n t x * Ideal.exp (B n t x : EReal) * carried K V B n.val e x

end

section

variable (xq xf xv : Fin 2048 → Fin 128 → EReal) (a : Fin 128 → EReal)

/-- A chunk's row in the sequence. -/
def rowAt (n : Fin 32) (t : Fin 64) : Fin 2048 := ⟨n.val * 64 + t.val, by omega⟩

/-- Queries, keys, values and running sums of one head, chunk by chunk, of its columns. -/
def qs (n : Fin 32) (t : Fin 64) (d : Fin 128) : EReal := xq (rowAt n t) d * sigm (xq (rowAt n t) d)
def ks (n : Fin 32) (t : Fin 64) (d : Fin 128) : EReal := 1 - gate (a d) (xf (rowAt n t) d)
def vs (n : Fin 32) (t : Fin 64) (e : Fin 128) : EReal := xv (rowAt n t) e
def logs (n : Fin 32) (t : Fin 64) (d : Fin 128) : ℝ := (gateLog (a d) (xf (rowAt n t) d)).toReal
def bs (n : Fin 32) (t : Fin 64) (d : Fin 128) : ℝ := runSum (logs xf a n) t d

/-- One head's output. -/
def headOut (r : Fin 2048) (e : Fin 128) : EReal :=
  chunkOut (qs xq) (ks xf a) (vs xv) (bs xf a) ⟨r.val / 64, by omega⟩ ⟨r.val % 64, by omega⟩ e

/-- The running sums of a chunk do not rise. -/
theorem bs_anti (h : ∀ d, 0 ≤ a d ∧ a d ≤ 1) (n : Fin 32) (x : Fin 128) (s t : Fin 64) (hst : s ≤ t) : bs xf a n t x ≤ bs xf a n s x :=
  runSum_anti _ (fun s x => (gateLog_real _ _ (h x).1 (h x).2).2) x s t hst

end

end Cert.Hgrn
-- ==== Proof.HgrnTrip.lean ====
/- One trip of the reference's loop: the chunk it reads, the state it leaves and the rows it stores. -/
module

public import proofs.«01_k».proof.Proof.Gen.ReferenceIdeal.Run
public import proofs.«01_k».proof.Proof.HgrnSpec
public import Idealize.ShloMosaic.Lib.Pointwise
public import Idealize.ShloMosaic.Lib.DynamicIndex
public import Idealize.ShloMosaic.Lib.Pipeline.ValueKit

@[expose] public section

set_option maxRecDepth 16384

noncomputable section

namespace Cert.HgrnRef

open Idealize.ShloMosaic Idealize.ShloMosaic.TcCoe Idealize.SL.Sem Idealize.ShloMosaic.StableHlo Idealize.ShloMosaic.Tactic
open Cert.ReferenceIdeal Cert.ReferenceIdeal.Gen Cert.ReferenceIdeal.Facts Cert.ReferenceIdeal.Value

/-- A trip's number as the loop counts it, clamped to the chunks, is the number. -/
theorem start_eq : ∀ k : Fin 32, (min (max (Scf.iv 0#32 1#32 k.val).toInt 0) ((32 - 1 : ℕ) : Int)).toNat = k.val := by decide +kernel

/-- Where a trip's chunk starts. -/
theorem starts_eq (w : IVec S_ 32) (k : Fin 32) (hw : w = fun _ => Scf.iv 0#32 1#32 k.val) (a : Fin 5) :
    (min (max (((![w, constantI S_ 32 0#32, constantI S_ 32 0#32, constantI S_ 32 0#32, constantI S_ 32 0#32] : Fin 5 → IVec S_ 32) a (Shape.Idx.first h_S_)).toInt) 0)
      ((S32x8x8x64x128.size a - S1x8x8x64x128.size a : ℕ) : Int)).toNat = (![k.val, 0, 0, 0, 0] : Fin 5 → ℕ) a := by
  subst hw
  match a with
  | ⟨0, _⟩ => exact start_eq k
  | ⟨1, _⟩ => rfl
  | ⟨2, _⟩ => rfl
  | ⟨3, _⟩ => rfl
  | ⟨4, _⟩ => rfl

theorem fits (k : Fin 32) : S32x8x8x64x128.Slices ![k.val, 0, 0, 0, 0] S1x8x8x64x128 := by
  refine ⟨rfl, fun a => ?_⟩
  match a with
  | ⟨0, _⟩ => show k.val + 1 ≤ 32; omega
  | ⟨1, _⟩ => show 0 + 8 ≤ 8; omega
  | ⟨2, _⟩ => show 0 + 8 ≤ 8; omega
  | ⟨3, _⟩ => show 0 + 64 ≤ 64; omega
  | ⟨4, _⟩ => show 0 + 128 ≤ 128; omega

/-- The chunk a trip reads. -/
theorem read_value (x : FVec Ideal S32x8x8x64x128 .f32) (w : IVec S_ 32) (k : Fin 32) (hw : w = fun _ => Scf.iv 0#32 1#32 k.val) (b h : Fin 8) (t : Fin 64) (d : Fin 128) :
    shapeCast S8x8x64x128 (Host.dynamicSlice S1x8x8x64x128 x
      (fun a => ((![w, constantI S_ 32 0#32, constantI S_ 32 0#32, constantI S_ 32 0#32, constantI S_ 32 0#32] : Fin 5 → IVec S_ 32) a (Shape.Idx.first h_S_)).toInt)
      sliceFits_S32x8x8x64x128_S1x8x8x64x128) shapeCasts_S1x8x8x64x128_S8x8x64x128 (ix4 b h t d) = x (ix5 k b h t d) := by
  rw [Host.dynamicSlice_eq_extractStridedSlice_of_clamp _ _ _ _ ![k.val, 0, 0, 0, 0] (starts_eq w k hw) (fits k)]
  pointwise []

/-- The array after a trip has stored its chunk. -/
theorem write_value (x : FVec Ideal S32x8x8x64x128 .f32) (u : FVec Ideal S8x8x64x128 .f32) (w : IVec S_ 32) (k : Fin 32) (hw : w = fun _ => Scf.iv 0#32 1#32 k.val)
    (n : Fin 32) (b h : Fin 8) (t : Fin 64) (d : Fin 128) :
    Host.dynamicUpdateSlice x (broadcastInDim S1x8x8x64x128 ![1, 2, 3, 4] bcast_S8x8x64x128_S1x8x8x64x128_1_2_3_4 u)
      (fun a => ((![w, constantI S_ 32 0#32, constantI S_ 32 0#32, constantI S_ 32 0#32, constantI S_ 32 0#32] : Fin 5 → IVec S_ 32) a (Shape.Idx.first h_S_)).toInt)
      updateFits_S32x8x8x64x128_S1x8x8x64x128 (ix5 n b h t d) = if n = k then u (ix4 b h t d) else x (ix5 n b h t d) := by
  have hc : ∀ a, Host.clampedStart S32x8x8x64x128 S1x8x8x64x128 updateFits_S32x8x8x64x128_S1x8x8x64x128.1
      (fun a => ((![w, constantI S_ 32 0#32, constantI S_ 32 0#32, constantI S_ 32 0#32, constantI S_ 32 0#32] : Fin 5 → IVec S_ 32) a (Shape.Idx.first h_S_)).toInt) a = (![k.val, 0, 0, 0, 0] : Fin 5 → ℕ) a := starts_eq w k hw
  rw [Host.dynamicUpdateSlice_apply]
  simp only [hc]
  by_cases e : n = k
  · subst e
    rw [if_pos rfl, dif_pos]
    · pointwise []
    · intro a
      match a with
      | ⟨0, _⟩ => exact ⟨le_refl n.val, Nat.lt_succ_self n.val⟩
      | ⟨1, _⟩ => exact ⟨Nat.zero_le _, by show b.val < 0 + 8; omega⟩
      | ⟨2, _⟩ => exact ⟨Nat.zero_le _, by show h.val < 0 + 8; omega⟩
      | ⟨3, _⟩ => exact ⟨Nat.zero_le _, by show t.val < 0 + 64; omega⟩
      | ⟨4, _⟩ => exact ⟨Nat.zero_le _, by show d.val < 0 + 128; omega⟩
  · rw [if_neg e, dif_neg]
    intro hin
    have h0 := hin 0
    have h1 : k.val ≤ n.val ∧ n.val < k.val + 1 := h0
    exact e (Fin.ext (by omega))

/-- The decay of a pair that the mask keeps. -/
theorem decay_pos (w : BitVec 1) (y : EReal) (h : w = 1#1) : Scalar.select w (Ideal.exp (Scalar.select w y 0)) 0 = Ideal.exp y := by
  subst h
  rfl

/-- The decay of a pair that it does not. -/
theorem decay_neg (w : BitVec 1) (y : EReal) (h : ¬ w = 1#1) : Scalar.select w (Ideal.exp (Scalar.select w y 0)) 0 = 0 := by
  unfold Scalar.select
  exact if_neg h

variable (V0 : Valuation τ sig (Elt Ideal)) (Q K V : Fin 8 → Fin 8 → Fin 32 → Fin 64 → Fin 128 → EReal) (B : Fin 8 → Fin 8 → Fin 32 → Fin 64 → Fin 128 → ℝ)

/-- The arrays that no trip changes: the queries, keys, values and running sums by chunks, and the mask. -/
structure Consts : Prop where
  q : ∀ n b h t d, (V0 (Proc.devRef .tc main_v46_0) : FVec Ideal S32x8x8x64x128 .f32) (ix5 n b h t d) = Q b h n t d
  k : ∀ n b h t d, (V0 (Proc.devRef .tc main_v46_1) : FVec Ideal S32x8x8x64x128 .f32) (ix5 n b h t d) = K b h n t d
  v : ∀ n b h t d, (V0 (Proc.devRef .tc main_v46_2) : FVec Ideal S32x8x8x64x128 .f32) (ix5 n b h t d) = V b h n t d
  b : ∀ n b h t d, (V0 (Proc.devRef .tc main_v46_3) : FVec Ideal S32x8x8x64x128 .f32) (ix5 n b h t d) = (B b h n t d : EReal)
  m : ∀ t s, (V0 (Proc.devRef .tc main_v46_4) : IVec S64x64x1 1) (ix3 t s 0) = 1#1 ↔ s ≤ t

section

variable {V0 Q K V B} (hc : Consts V0 Q K V B) (k : Fin 32) (hk : (V0 (Proc.devRef .tc main_v46_5) : IVec S_ 32) = fun _ => Scf.iv 0#32 1#32 k.val)

include hc hk

theorem q_trip (b h : Fin 8) (t : Fin 64) (d : Fin 128) : res_main_while0b_v52 V0 (ix4 b h t d) = Q b h k t d :=
  (read_value _ _ k hk b h t d).trans (hc.q k b h t d)
theorem k_trip (b h : Fin 8) (t : Fin 64) (d : Fin 128) : res_main_while0b_v53 V0 (ix4 b h t d) = K b h k t d :=
  (read_value _ _ k hk b h t d).trans (hc.k k b h t d)
theorem v_trip (b h : Fin 8) (t : Fin 64) (d : Fin 128) : res_main_while0b_v54 V0 (ix4 b h t d) = V b h k t d :=
  (read_value _ _ k hk b h t d).trans (hc.v k b h t d)
theorem b_trip (b h : Fin 8) (t : Fin 64) (d : Fin 128) : res_main_while0b_v55 V0 (ix4 b h t d) = (B b h k t d : EReal) :=
  (read_value _ _ k hk b h t d).trans (hc.b k b h t d)

/-- The state a trip leaves. -/
theorem state_trip (hs : ∀ b h d e, (V0 (Proc.devRef .tc main_v46_6) : FVec Ideal S8x8x128x128 .f32) (ix4 b h d e) = Hgrn.carried (K b h) (V b h) (B b h) k.val e d)
    (b h : Fin 8) (d e : Fin 128) : step_main_v46_6 V0 (ix4 b h d e) = Hgrn.carried (K b h) (V b h) (B b h) (k.val + 1) e d := by
  have h1 := fun t d => k_trip hc k hk b h t d
  have h2 := fun t d => v_trip hc k hk b h t d
  have h3 := fun t d => b_trip hc k hk b h t d
  have hs := hs b h d e
  unfold step_main_v46_6
  rw [id_eq]
  pointwise [res_main_while0b_v76]
  simp only [h1, h2, h3, hs]
  rw [Hgrn.carried]
  beta_reduce
  rw [dif_pos k.isLt]
  refine congrArg₂ (· + ·) rfl (Finset.sum_congr rfl fun s _ => ?_)
  exact mul_comm _ _

/-- The rows a trip stores. -/
theorem out_trip (hs : ∀ b h d e, (V0 (Proc.devRef .tc main_v46_6) : FVec Ideal S8x8x128x128 .f32) (ix4 b h d e) = Hgrn.carried (K b h) (V b h) (B b h) k.val e d)
    (n : Fin 32) (b h : Fin 8) (t : Fin 64) (e : Fin 128) : step_main_v46_7 V0 (ix5 n b h t e)
      = if n = k then Hgrn.chunkOut (Q b h) (K b h) (V b h) (B b h) k t e else (V0 (Proc.devRef .tc main_v46_7) : FVec Ideal S32x8x8x64x128 .f32) (ix5 n b h t e) := by
  refine (write_value _ _ _ k hk n b h t e).trans (if_congr Iff.rfl ?_ rfl)
  have h0 := fun t d => q_trip hc k hk b h t d
  have h1 := fun t d => k_trip hc k hk b h t d
  have h2 := fun t d => v_trip hc k hk b h t d
  have h3 := fun t d => b_trip hc k hk b h t d
  have hs := fun d => hs b h d e
  have hm := fun s => hc.m t s
  have z : (id (constant S_ .f32 0#32) ix0 : Ideal .f32) = (0 : EReal) := by
    rw [id_eq]
    pointwise []
  pointwise []
  simp only [h0, h1, h2, h3, hs, z]
  unfold Hgrn.chunkOut
  rw [add_comm]
  refine congrArg₂ (· + ·) (Finset.sum_congr rfl fun s _ => congrArg (· * V b h k s e) ?_) rfl
  unfold Hgrn.weight
  by_cases c : s ≤ t
  · rw [if_pos c]
    exact Finset.sum_congr rfl fun x _ => congrArg (Q b h k t x * K b h k s x * ·) (decay_pos _ _ ((hm s).mpr c))
  · rw [if_neg c]
    refine (Finset.sum_congr rfl fun x _ => congrArg (Q b h k t x * K b h k s x * ·) (decay_neg _ _ fun x => c ((hm s).mp x))).trans ?_
    simp only [mul_zero, Finset.sum_const_zero]

end

end Cert.HgrnRef
-- ==== Proof.HgrnEntry.lean ====
/- What the reference's loop starts from: the projected columns cut into heads and chunks, activated, gated and summed. -/
module

public import proofs.«01_k».proof.Proof.Gen.ReferenceIdeal.Run

@[expose] public section

set_option maxRecDepth 16384

noncomputable section

namespace Cert.HgrnRef

open Idealize.ShloMosaic Idealize.ShloMosaic.TcCoe Idealize.SL.Sem Idealize.ShloMosaic.StableHlo
open Cert.ReferenceIdeal Cert.ReferenceIdeal.Gen Cert.ReferenceIdeal.Facts Cert.ReferenceIdeal.Value

variable {F : FTy → Type} [FloatOps F]

/-- The heads of columns. -/
def heads (x : FVec F S8x2048x1024 .f32) : FVec F S8x8x2048x128 .f32 :=
  transpose S8x8x2048x128 [0, 2, 1, 3] (shapeCast S8x2048x8x128 x shapeCasts_S8x2048x1024_S8x2048x8x128) transposes_S8x2048x8x128_S8x8x2048x128_0_2_1_3

/-- The query, forget and value columns of the projected array. -/
def colQ (U : FVec F S8x2048x17408 .bf16) : FVec F S8x2048x1024 .f32 :=
  extf .f32 (extractStridedSlice S8x2048x1024 ![0, 0, 7168] U slices_S8x2048x17408_S8x2048x1024_0_0_7168) bitsLt_bf16_f32
def colF (U : FVec F S8x2048x17408 .bf16) : FVec F S8x2048x1024 .f32 :=
  extf .f32 (extractStridedSlice S8x2048x1024 ![0, 0, 8192] U slices_S8x2048x17408_S8x2048x1024_0_0_8192) bitsLt_bf16_f32
def colV (U : FVec F S8x2048x17408 .bf16) : FVec F S8x2048x1024 .f32 :=
  extf .f32 (extractStridedSlice S8x2048x1024 ![0, 0, 9216] U slices_S8x2048x17408_S8x2048x1024_0_0_9216) bitsLt_bf16_f32

/-- The sigmoid of an array. -/
def sigA (x : FVec F S8x8x2048x128 .f32) : FVec F S8x8x2048x128 .f32 :=
  Host.divf (broadcastInDim S8x8x2048x128 ![] bcast_S_S8x8x2048x128 (constant S_ .f32 0x3F800000#32))
    (addf (broadcastInDim S8x8x2048x128 ![] bcast_S_S8x8x2048x128 (constant S_ .f32 0x3F800000#32)) (Host.exp (Host.negf x)))

/-- The gates. -/
def gates (L : FVec F S8x1x128 .f32) (x : FVec F S8x8x2048x128 .f32) : FVec F S8x8x2048x128 .f32 :=
  addf (broadcastInDim S8x8x2048x128 ![0, 1, 2, 3] bcast_S1x8x1x128_S8x8x2048x128_0_1_2_3 (broadcastInDim S1x8x1x128 ![1, 2, 3] bcast_S8x1x128_S1x8x1x128_1_2_3 L))
    (mulf (broadcastInDim S8x8x2048x128 ![0, 1, 2, 3] bcast_S1x8x1x128_S8x8x2048x128_0_1_2_3 (broadcastInDim S1x8x1x128 ![1, 2, 3] bcast_S8x1x128_S1x8x1x128_1_2_3
      (subf (broadcastInDim S8x1x128 ![] bcast_S_S8x1x128 (constant S_ .f32 0x3F800000#32)) L))) (sigA x))

/-- Their logarithms over the floor, cut into chunks. -/
def gateLogs (L : FVec F S8x1x128 .f32) (x : FVec F S8x8x2048x128 .f32) : FVec F S8x8x32x64x128 .f32 :=
  shapeCast S8x8x32x64x128 (Host.log (maximumf (gates L x) (broadcastInDim S8x8x2048x128 ![] bcast_S_S8x8x2048x128 (constant S_ .f32 0x0DA24260#32))))
    shapeCasts_S8x8x2048x128_S8x8x32x64x128

/-- The running sums of chunks. -/
def sums (x : FVec F S8x8x32x64x128 .f32) : FVec F S8x8x32x64x128 .f32 :=
  Host.reduceWindowAdd ![1, 1, 1, 64, 1] ![1, 1, 1, 1, 1] ![0, 0, 0, 63, 0] ![0, 0, 0, 0, 0] x (broadcastInDim S_ ![] bcast_S_S_ (constant S_ .f32 0x00000000#32))
    reduceWindows_S8x8x32x64x128_S8x8x32x64x128_w1s1p0_0_w1s1p0_0_w1s1p0_0_w64s1p63_0_w1s1p0_0 h_S_

/-- The chunks first. -/
def first (x : FVec F S8x8x32x64x128 .f32) : FVec F S32x8x8x64x128 .f32 :=
  transpose S32x8x8x64x128 [2, 0, 1, 3, 4] x transposes_S8x8x32x64x128_S32x8x8x64x128_2_0_1_3_4
def chunks (x : FVec F S8x8x2048x128 .f32) : FVec F S32x8x8x64x128 .f32 := first (shapeCast S8x8x32x64x128 x shapeCasts_S8x8x2048x128_S8x8x32x64x128)

/-- The mask of the pairs whose second row is not later. -/
def mask : IVec S64x64x1 1 :=
  broadcastInDim S64x64x1 ![0, 1] bcast_S64x64_S64x64x1_0_1
    (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)))

/-! Stretch by stretch, what the operations before the loop leave. -/

variable (V : Valuation τ sig (Elt F))

theorem s0_v7 : after hostOps0 V (Proc.devRef .tc main_v7) = heads (F := F) (colQ (F := F) (V (Proc.devRef .tc main_arg0))) := by
  simp only [hostOps0]
  after_results_entrywise [cast_eq]
  all_goals rfl

theorem s0_v3 : after hostOps0 V (Proc.devRef .tc main_v3) = colF (F := F) (V (Proc.devRef .tc main_arg0)) := by
  simp only [hostOps0]
  after_results_entrywise [cast_eq]
  all_goals rfl

theorem s0_v5 : after hostOps0 V (Proc.devRef .tc main_v5) = colV (F := F) (V (Proc.devRef .tc main_arg0)) := by
  simp only [hostOps0]
  after_results_entrywise [cast_eq]
  all_goals rfl

theorem s1_v8 : after hostOps0_1 V (Proc.devRef .tc main_v8) = mulf (F := F) (s := S8x8x2048x128) (φ := .f32) (V (Proc.devRef .tc main_v7)) (sigA (F := F) (V (Proc.devRef .tc main_v7))) := by
  simp only [hostOps0_1]
  after_results_entrywise [cast_eq]
  all_goals rfl

theorem s2_v29 : after hostOps0_2 V (Proc.devRef .tc main_v29) = subf (F := F) (broadcastInDim S8x8x2048x128 ![] bcast_S_S8x8x2048x128 (constant S_ .f32 0x3F800000#32)) (gates (F := F) (V (Proc.devRef .tc main_arg1)) (heads (F := F) (V (Proc.devRef .tc main_v3)))) := by
  simp only [hostOps0_2]
  after_results_entrywise [cast_eq]
  all_goals rfl

theorem s2_v31 : after hostOps0_2 V (Proc.devRef .tc main_v31) = heads (F := F) (V (Proc.devRef .tc main_v5)) := by
  simp only [hostOps0_2]
  after_results_entrywise [cast_eq]
  all_goals rfl

theorem s2_v32 : after hostOps0_2 V (Proc.devRef .tc main_v32) = gateLogs (F := F) (V (Proc.devRef .tc main_arg1)) (heads (F := F) (V (Proc.devRef .tc main_v3))) := by
  simp only [hostOps0_2]
  after_results_entrywise [cast_eq]
  all_goals rfl

theorem s3_v33 : after hostOps0_3 V (Proc.devRef .tc main_v33) = sums (F := F) (V (Proc.devRef .tc main_v32)) := by
  simp only [hostOps0_3]
  after_results_entrywise [cast_eq]
  all_goals rfl

theorem s4_v35 : after hostOps0_4 V (Proc.devRef .tc main_v35) = chunks (F := F) (V (Proc.devRef .tc main_v8)) := by
  simp only [hostOps0_4]
  after_results_entrywise [cast_eq]
  all_goals rfl

theorem s4_v37 : after hostOps0_4 V (Proc.devRef .tc main_v37) = chunks (F := F) (V (Proc.devRef .tc main_v29)) := by
  simp only [hostOps0_4]
  after_results_entrywise [cast_eq]
  all_goals rfl

theorem s4_v39 : after hostOps0_4 V (Proc.devRef .tc main_v39) = chunks (F := F) (V (Proc.devRef .tc main_v31)) := by
  simp only [hostOps0_4]
  after_results_entrywise [cast_eq]
  all_goals rfl

theorem s4_v40 : after hostOps0_4 V (Proc.devRef .tc main_v40) = first (F := F) (V (Proc.devRef .tc main_v33)) := by
  simp only [hostOps0_4]
  after_results_entrywise [cast_eq]
  all_goals rfl

theorem s4_v41 : after hostOps0_4 V (Proc.devRef .tc main_v41) = broadcastInDim S64x64 ![] bcast_S_S64x64 (constantI S_ 1 1#1) := by
  simp only [hostOps0_4]
  after_results_entrywise [cast_eq]
  all_goals rfl

theorem s5_v42 : after hostOps0_5 V (Proc.devRef .tc main_v42) = select (cmpi .sge (addi (iotaInDim S64x64 32 0) (broadcastInDim S64x64 ![] bcast_S_S64x64 (constantI S_ 32 0#32))) (iotaInDim S64x64 32 1)) (V (Proc.devRef .tc main_v41)) (broadcastInDim S64x64 ![] bcast_S_S64x64 (constantI S_ 1 0#1)) := by
  simp only [hostOps0_5]
  after_results_entrywise [cast_eq]
  all_goals rfl

theorem s6_v46_0 : after hostOps0_6 V (Proc.devRef .tc main_v46_0) = (V (Proc.devRef .tc main_v35)) := by
  simp only [hostOps0_6]
  after_results_entrywise [cast_eq]
  all_goals rfl

theorem s6_v46_1 : after hostOps0_6 V (Proc.devRef .tc main_v46_1) = (V (Proc.devRef .tc main_v37)) := by
  simp only [hostOps0_6]
  after_results_entrywise [cast_eq]
  all_goals rfl

theorem s6_v46_2 : after hostOps0_6 V (Proc.devRef .tc main_v46_2) = (V (Proc.devRef .tc main_v39)) := by
  simp only [hostOps0_6]
  after_results_entrywise [cast_eq]
  all_goals rfl

theorem s6_v46_3 : after hostOps0_6 V (Proc.devRef .tc main_v46_3) = (V (Proc.devRef .tc main_v40)) := by
  simp only [hostOps0_6]
  after_results_entrywise [cast_eq]
  all_goals rfl

theorem s6_v46_4 : after hostOps0_6 V (Proc.devRef .tc main_v46_4) = broadcastInDim S64x64x1 ![0, 1] bcast_S64x64_S64x64x1_0_1 (V (Proc.devRef .tc main_v42)) := by
  simp only [hostOps0_6]
  after_results_entrywise [cast_eq]
  all_goals rfl

theorem s6_v46_6 : after hostOps0_6 V (Proc.devRef .tc main_v46_6) = broadcastInDim S8x8x128x128 ![] bcast_S_S8x8x128x128 (constant S_ .f32 0x00000000#32) := by
  simp only [hostOps0_6]
  after_results_entrywise [cast_eq]
  all_goals rfl

theorem s6_v46_7 : after hostOps0_6 V (Proc.devRef .tc main_v46_7) = broadcastInDim S32x8x8x64x128 ![] bcast_S_S32x8x8x64x128 (constant S_ .f32 0x00000000#32) := by
  simp only [hostOps0_6]
  after_results_entrywise [cast_eq]
  all_goals rfl

theorem k0_arg1 : after hostOps0 V (Proc.devRef .tc main_arg1) = V (Proc.devRef .tc main_arg1) :=
  after_of_writes_sub hostOps0 V hostOps0_writes (by decide +kernel)

theorem k1_arg1 : after hostOps0_1 V (Proc.devRef .tc main_arg1) = V (Proc.devRef .tc main_arg1) :=
  after_of_writes_sub hostOps0_1 V hostOps0_1_writes (by decide +kernel)

theorem k1_v3 : after hostOps0_1 V (Proc.devRef .tc main_v3) = V (Proc.devRef .tc main_v3) :=
  after_of_writes_sub hostOps0_1 V hostOps0_1_writes (by decide +kernel)

theorem k1_v5 : after hostOps0_1 V (Proc.devRef .tc main_v5) = V (Proc.devRef .tc main_v5) :=
  after_of_writes_sub hostOps0_1 V hostOps0_1_writes (by decide +kernel)

theorem k2_v8 : after hostOps0_2 V (Proc.devRef .tc main_v8) = V (Proc.devRef .tc main_v8) :=
  after_of_writes_sub hostOps0_2 V hostOps0_2_writes (by decide +kernel)

theorem k3_v8 : after hostOps0_3 V (Proc.devRef .tc main_v8) = V (Proc.devRef .tc main_v8) :=
  after_of_writes_sub hostOps0_3 V hostOps0_3_writes (by decide +kernel)

theorem k3_v29 : after hostOps0_3 V (Proc.devRef .tc main_v29) = V (Proc.devRef .tc main_v29) :=
  after_of_writes_sub hostOps0_3 V hostOps0_3_writes (by decide +kernel)

theorem k3_v31 : after hostOps0_3 V (Proc.devRef .tc main_v31) = V (Proc.devRef .tc main_v31) :=
  after_of_writes_sub hostOps0_3 V hostOps0_3_writes (by decide +kernel)

theorem k5_v35 : after hostOps0_5 V (Proc.devRef .tc main_v35) = V (Proc.devRef .tc main_v35) :=
  after_of_writes_sub hostOps0_5 V hostOps0_5_writes (by decide +kernel)

theorem k5_v37 : after hostOps0_5 V (Proc.devRef .tc main_v37) = V (Proc.devRef .tc main_v37) :=
  after_of_writes_sub hostOps0_5 V hostOps0_5_writes (by decide +kernel)

theorem k5_v39 : after hostOps0_5 V (Proc.devRef .tc main_v39) = V (Proc.devRef .tc main_v39) :=
  after_of_writes_sub hostOps0_5 V hostOps0_5_writes (by decide +kernel)

theorem k5_v40 : after hostOps0_5 V (Proc.devRef .tc main_v40) = V (Proc.devRef .tc main_v40) :=
  after_of_writes_sub hostOps0_5 V hostOps0_5_writes (by decide +kernel)

/-! The carried arrays at the loop's entry. -/

variable (m : (ℓ : Loc nD τ sig) → Buf (Elt F) ℓ) (c : Dev nD)

theorem entry_0 : entryContents preI m c (Proc.devRef .tc main_v46_0) = chunks (F := F) (mulf (F := F) (heads (F := F) (colQ (F := F) (m ((c.tc : Thread nD τ).loc main_arg0)))) (sigA (F := F) (heads (F := F) (colQ (F := F) (m ((c.tc : Thread nD τ).loc main_arg0)))))) := by
  simp only [entryContents, afterL_cons, afterL_nil]
  rw [s6_v46_0, k5_v35, s4_v35, k3_v8, k2_v8, s1_v8, s0_v7]
  all_goals rfl

theorem entry_1 : entryContents preI m c (Proc.devRef .tc main_v46_1) = chunks (F := F) (subf (F := F) (broadcastInDim S8x8x2048x128 ![] bcast_S_S8x8x2048x128 (constant S_ .f32 0x3F800000#32)) (gates (F := F) (m ((c.tc : Thread nD τ).loc main_arg1)) (heads (F := F) (colF (F := F) (m ((c.tc : Thread nD τ).loc main_arg0)))))) := by
  simp only [entryContents, afterL_cons, afterL_nil]
  rw [s6_v46_1, k5_v37, s4_v37, k3_v29, s2_v29, k1_arg1, k1_v3, k0_arg1, s0_v3]
  all_goals rfl

theorem entry_2 : entryContents preI m c (Proc.devRef .tc main_v46_2) = chunks (F := F) (heads (F := F) (colV (F := F) (m ((c.tc : Thread nD τ).loc main_arg0)))) := by
  simp only [entryContents, afterL_cons, afterL_nil]
  rw [s6_v46_2, k5_v39, s4_v39, k3_v31, s2_v31, k1_v5, s0_v5]
  all_goals rfl

theorem entry_3 : entryContents preI m c (Proc.devRef .tc main_v46_3) = first (F := F) (sums (F := F) (gateLogs (F := F) (m ((c.tc : Thread nD τ).loc main_arg1)) (heads (F := F) (colF (F := F) (m ((c.tc : Thread nD τ).loc main_arg0)))))) := by
  simp only [entryContents, afterL_cons, afterL_nil]
  rw [s6_v46_3, k5_v40, s4_v40, s3_v33, s2_v32, k1_arg1, k1_v3, k0_arg1, s0_v3]
  all_goals rfl

theorem entry_4 : entryContents preI m c (Proc.devRef .tc main_v46_4) = mask := by
  simp only [entryContents, afterL_cons, afterL_nil]
  rw [s6_v46_4, s5_v42, s4_v41]
  all_goals rfl

theorem entry_6 : entryContents preI m c (Proc.devRef .tc main_v46_6) = broadcastInDim S8x8x128x128 ![] bcast_S_S8x8x128x128 (constant S_ .f32 0x00000000#32) := by
  simp only [entryContents, afterL_cons, afterL_nil]
  rw [s6_v46_6]
  all_goals rfl

theorem entry_7 : entryContents preI m c (Proc.devRef .tc main_v46_7) = broadcastInDim S32x8x8x64x128 ![] bcast_S_S32x8x8x64x128 (constant S_ .f32 0x00000000#32) := by
  simp only [entryContents, afterL_cons, afterL_nil]
  rw [s6_v46_7]
  all_goals rfl

end Cert.HgrnRef
-- ==== Proof.HgrnCumsum.lean ====
/- The reference's running sums: a window of sixty-four over each chunk, padded below, is the sum of the rows that are not later. -/
module

public import proofs.«01_k».proof.Proof.Gen.ReferenceIdeal
public import Idealize.ShloMosaic.Lib.Pointwise
public import Idealize.ShloMosaic.Lib.Pipeline.ValueKit

@[expose] public section

set_option maxRecDepth 16384

noncomputable section

namespace Cert.HgrnRef

open Idealize.ShloMosaic Idealize.ShloMosaic.TcCoe Idealize.ShloMosaic.Tactic
open Cert.ReferenceIdeal Cert.ReferenceIdeal.Gen Cert.ReferenceIdeal.Facts

/-- A left fold of additions is the start and the sum. -/
theorem foldl_add {N : ℕ} (f : Fin N → EReal) (v : EReal) : (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, ← List.ofFn_eq_map, List.sum_ofFn]

/-- A choice does not depend on how its condition is decided. -/
theorem dite_both {P : Prop} {α : Type} (i1 i2 : Decidable P) (f : P → α) (v : α) : @dite α P i1 f (fun _ => v) = @dite α P i2 f (fun _ => v) := by
  by_cases h : P
  · rw [dif_pos h, dif_pos h]
  · rw [dif_neg h, dif_neg h]

/-- The window as a shape. -/
abbrev Win : Shape := ⟨5, ![1, 1, 1, 64, 1]⟩

/-- A position of the window is a number below sixty-four. -/
def winEquiv : Win.Idx ≃ Fin 64 where
  toFun i := i 3
  invFun k := ix5 0 0 0 k 0
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv k := rfl

/-- Where a window position of a row's sum lies in the padded operand. -/
def place (j : S8x8x32x64x128.Idx) (i : Win.Idx) (a : Fin 5) : ℕ := (j a).val * (![1, 1, 1, 1, 1] : Fin 5 → ℕ) a + (i a).val

/-- The operand's entry at a window position, the start value in the padding. -/
def entry (v : EReal) (x : FVec Ideal S8x8x32x64x128 .f32) (j : S8x8x32x64x128.Idx) (i : Win.Idx) : EReal :=
  if hin : ∀ a : Fin 5, (![0, 0, 0, 63, 0] : Fin 5 → ℕ) a ≤ place j i a ∧ place j i a - (![0, 0, 0, 63, 0] : Fin 5 → ℕ) a < S8x8x32x64x128.size a then
    x (fun a => ⟨place j i a - (![0, 0, 0, 63, 0] : Fin 5 → ℕ) a, (hin a).2⟩) else v

/-- Position `k` of the window is row `t + k - 63`, when there is one. -/
theorem entry_value (x : FVec Ideal S8x8x32x64x128 .f32) (b h : Fin 8) (n : Fin 32) (t : Fin 64) (d : Fin 128) (k : Fin 64) :
    entry 0 x (ix5 b h n t d) (ix5 0 0 0 k 0) = if (k + (t + 1)) ≤ t then x (ix5 b h n (k + (t + 1)) d) else 0 := by
  have hk := k.isLt
  have ht := t.isLt
  have hv : (k + (t + 1)).val = (k.val + (t.val + 1)) % 64 := by
    rw [Fin.val_add, Fin.val_add]
    show (k.val + (t.val + 1) % 64) % 64 = _
    omega
  unfold entry
  by_cases hc : 63 ≤ t.val + k.val
  · have hle : k + (t + 1) ≤ t := by
      show (k + (t + 1)).val ≤ t.val
      omega
    rw [if_pos hle, dif_pos]
    · refine congrArg x (funext fun a => Fin.ext ?_)
      match a with
      | ⟨0, _⟩ => show b.val * 1 + 0 - 0 = b.val; omega
      | ⟨1, _⟩ => show h.val * 1 + 0 - 0 = h.val; omega
      | ⟨2, _⟩ => show n.val * 1 + 0 - 0 = n.val; omega
      | ⟨3, _⟩ => show t.val * 1 + k.val - 63 = (k + (t + 1)).val; omega
      | ⟨4, _⟩ => show d.val * 1 + 0 - 0 = d.val; omega
    · intro a
      match a with
      | ⟨0, _⟩ => exact ⟨Nat.zero_le _, (by have := b.isLt; omega : b.val * 1 + 0 - 0 < 8)⟩
      | ⟨1, _⟩ => exact ⟨Nat.zero_le _, (by have := h.isLt; omega : h.val * 1 + 0 - 0 < 8)⟩
      | ⟨2, _⟩ => exact ⟨Nat.zero_le _, (by have := n.isLt; omega : n.val * 1 + 0 - 0 < 32)⟩
      | ⟨3, _⟩ => exact ⟨(by omega : 63 ≤ t.val * 1 + k.val), (by omega : t.val * 1 + k.val - 63 < 64)⟩
      | ⟨4, _⟩ => exact ⟨Nat.zero_le _, (by have := d.isLt; omega : d.val * 1 + 0 - 0 < 128)⟩
  · have hle : ¬ k + (t + 1) ≤ t := by
      show ¬ (k + (t + 1)).val ≤ t.val
      omega
    rw [if_neg hle, dif_neg]
    intro hin
    have h3 : 63 ≤ t.val * 1 + k.val := (hin 3).1
    omega

/-- The running sum at a row. -/
theorem cumsum_value (x : FVec Ideal S8x8x32x64x128 .f32) (z : FVec Ideal S_ .f32) (hz : ∀ i, z i = 0) (b h : Fin 8) (n : Fin 32) (t : Fin 64) (d : Fin 128) :
    Host.reduceWindowAdd ![1, 1, 1, 64, 1] ![1, 1, 1, 1, 1] ![0, 0, 0, 63, 0] ![0, 0, 0, 0, 0] x z
        reduceWindows_S8x8x32x64x128_S8x8x32x64x128_w1s1p0_0_w1s1p0_0_w1s1p0_0_w64s1p63_0_w1s1p0_0 h_S_ (ix5 b h n t d)
      = ∑ s : Fin 64, if s ≤ t then x (ix5 b h n s d) else 0 := by
  have e : Host.reduceWindowAdd ![1, 1, 1, 64, 1] ![1, 1, 1, 1, 1] ![0, 0, 0, 63, 0] ![0, 0, 0, 0, 0] x z
        reduceWindows_S8x8x32x64x128_S8x8x32x64x128_w1s1p0_0_w1s1p0_0_w1s1p0_0_w64s1p63_0_w1s1p0_0 h_S_ (ix5 b h n t d)
      = (List.finRange Win.numel).foldl (fun r k => r + entry (z (Shape.Idx.first h_S_)) x (ix5 b h n t d) (Win.rowMajor.symm k)) (z (Shape.Idx.first h_S_) : EReal) := by
    simp only [Host.reduceWindowAdd, Ideal.hostReduceWindowAdd, Host.reduceWindow]
    refine congrArg (fun f => List.foldl f _ _) (funext fun r => funext fun k => congrArg (r + ·) ?_)
    unfold entry
    exact dite_both _ _ _ _
  rw [e, hz, foldl_add, zero_add, Equiv.sum_comp Win.rowMajor.symm (entry 0 x (ix5 b h n t d)), ← Equiv.sum_comp winEquiv.symm,
    ← Equiv.sum_comp (Equiv.addRight (t + 1)) (fun s => if s ≤ t then x (ix5 b h n s d) else 0)]
  exact Finset.sum_congr rfl fun k _ => entry_value x b h n t d k

end Cert.HgrnRef
-- ==== Proof.HgrnInside.lean ====
/- The last two levels of scores, and what a chunk's own positions contribute to the output. -/
module

public import proofs.«01_k».proof.Proof.HgrnPay

@[expose] public section

set_option maxRecDepth 16384

noncomputable section

namespace Cert.Hgrn

open Idealize.ShloMosaic Idealize.ShloMosaic.TcCoe Idealize.ShloMosaic.Tactic
open Cert.KernelIdeal Cert.KernelIdeal.Gen

theorem low4_iff : ∀ t : Fin 64, IntOp.cmpi .slt (IntOp.andi (BitVec.ofNat 32 t.val) 3#32) 2#32 = 1 ↔ t.val % 4 < 2 := by decide +kernel

theorem odd_iff : ∀ t : Fin 64, IntOp.cmpi .eq (IntOp.andi (BitVec.ofNat 32 t.val) 1#32) 1#32 = 1 ↔ t.val % 2 = 1 := by decide +kernel

theorem even_iff : ∀ t : Fin 64, IntOp.cmpi .eq (IntOp.andi (BitVec.ofNat 32 t.val) 1#32) 0#32 = 1 ↔ t.val % 2 = 0 := by decide +kernel

/-- The rotated rows from which the level of four takes its middles are those middles. -/
theorem rotated4 (b : FVec Ideal S32x64x128 .f32) (n : Fin 32) (t : Fin 64) (x : Fin 128) :
    Scalar.select (IntOp.cmpi CmpIPredicate.slt (IntOp.andi (BitVec.ofNat 32 t.val) 3#32) 2#32)
      (Scalar.select (IntOp.cmpi CmpIPredicate.eq (IntOp.andi (BitVec.ofNat 32 ((n.val * 64 + t.val + 2048 - 2046) % 2048 % 64)) 1#32) 1#32)
        (b (ix3 ⟨((n.val * 64 + t.val + 2048 - 2046) % 2048 / 64 * 64 + (n.val * 64 + t.val + 2048 - 2046) % 2048 % 64 + 2048 - 1) % 2048 / 64, by omega⟩
          ⟨((n.val * 64 + t.val + 2048 - 2046) % 2048 / 64 * 64 + (n.val * 64 + t.val + 2048 - 2046) % 2048 % 64 + 2048 - 1) % 2048 % 64, by omega⟩ x))
        (b (ix3 ⟨(n.val * 64 + t.val + 2048 - 2046) % 2048 / 64, by omega⟩ ⟨(n.val * 64 + t.val + 2048 - 2046) % 2048 % 64, by omega⟩ x)))
      (Scalar.select (IntOp.cmpi CmpIPredicate.eq (IntOp.andi (BitVec.ofNat 32 t.val) 1#32) 1#32)
        (b (ix3 ⟨(n.val * 64 + t.val + 2048 - 1) % 2048 / 64, by omega⟩ ⟨(n.val * 64 + t.val + 2048 - 1) % 2048 % 64, by omega⟩ x))
        (b (ix3 n t x))) = b (ix3 n (mid 2 t) x) := by
  have hm : (mid 2 t).val = (t.val / 4 * 4 + 2) % 64 := rfl
  have ht := t.isLt
  have hn := n.isLt
  have ho := odd_iff ⟨(n.val * 64 + t.val + 2048 - 2046) % 2048 % 64, by omega⟩
  simp only at ho
  unfold Scalar.select
  by_cases c : t.val % 4 < 2
  · rw [if_pos ((low4_iff t).mpr c)]
    by_cases c' : (n.val * 64 + t.val + 2048 - 2046) % 2048 % 64 % 2 = 1
    · rw [if_pos (ho.mpr c')]
      refine congrArg₂ (fun i j => b (ix3 i j x)) (Fin.ext ?_) (Fin.ext ?_)
      · show (_ : ℕ) = n.val; dsimp only; omega
      · rw [hm]; dsimp only; omega
    · rw [if_neg fun h => c' (ho.mp h)]
      refine congrArg₂ (fun i j => b (ix3 i j x)) (Fin.ext ?_) (Fin.ext ?_)
      · show (_ : ℕ) = n.val; dsimp only; omega
      · rw [hm]; dsimp only; omega
  · rw [if_neg fun h => c ((low4_iff t).mp h)]
    by_cases c' : t.val % 2 = 1
    · rw [if_pos ((odd_iff t).mpr c')]
      refine congrArg₂ (fun i j => b (ix3 i j x)) (Fin.ext ?_) (Fin.ext ?_)
      · show (_ : ℕ) = n.val; dsimp only; omega
      · rw [hm]; dsimp only; omega
    · rw [if_neg fun h => c' ((odd_iff t).mp h)]
      refine congrArg₂ (fun i j => b (ix3 i j x)) rfl (Fin.ext ?_)
      rw [hm]; omega

/-- And those from which the level of two does. -/
theorem rotated2 (b : FVec Ideal S32x64x128 .f32) (n : Fin 32) (t : Fin 64) (x : Fin 128) :
    Scalar.select (IntOp.cmpi CmpIPredicate.eq (IntOp.andi (BitVec.ofNat 32 t.val) 1#32) 0#32)
      (b (ix3 ⟨(n.val * 64 + t.val + 2048 - 2047) % 2048 / 64, by omega⟩ ⟨(n.val * 64 + t.val + 2048 - 2047) % 2048 % 64, by omega⟩ x))
      (b (ix3 n t x)) = b (ix3 n (mid 1 t) x) := by
  have hm : (mid 1 t).val = (t.val / 2 * 2 + 1) % 64 := rfl
  have ht := t.isLt
  have hn := n.isLt
  unfold Scalar.select
  by_cases c : t.val % 2 = 0
  · rw [if_pos ((even_iff t).mpr c)]
    refine congrArg₂ (fun i j => b (ix3 i j x)) (Fin.ext ?_) (Fin.ext ?_)
    · show (_ : ℕ) = n.val; dsimp only; omega
    · rw [hm]; dsimp only; omega
  · rw [if_neg fun h => c ((even_iff t).mp h)]
    refine congrArg₂ (fun i j => b (ix3 i j x)) rfl (Fin.ext ?_)
    rw [hm]; omega

section
variable (q kk : FVec Ideal S32x64x128 .f32) (l : FVec Ideal S2048x128 .f32) (n : Fin 32)
    (Q K : Fin 64 → Fin 128 → EReal) (B : Fin 64 → Fin 128 → ℝ)
    (hq : ∀ t x, q (ix3 n t x) = Q t x) (hk : ∀ t x, kk (ix3 n t x) = K t x)
    (hb : ∀ t x, k0_pay12 l (ix3 n t x) = (B t x : EReal))
include hq hk hb

/-- The level of four over the earlier ones. -/
theorem scores4_value (t s : Fin 64) : scores4 q l kk (ix3 n t s)
    = Scalar.select (pairs 3#32 2#32 4294967292#32 t s) (∑ x, half (hi 3#32 2#32) (mid 2) Q K B t x * half (hi 3#32 2#32) (mid 2) Q K B s x)
        (scores8 q l kk (ix3 n t s)) := by
  unfold scores4
  generalize scores8 q l kk = sc
  pointwise [k0_pay26, k0_pay24, k0_pay25, posNo, rowNo, colNo]
  simp only [rotated4]
  simp only [hq, hk, hb]
  rfl

/-- The level of two over those, times the values. -/
theorem inside_levels (v : FVec Ideal S32x64x128 .bf16) (t : Fin 64) (x : Fin 128) : inside q l kk v (ix3 n t x)
    = ∑ s, Scalar.select (pairs 1#32 1#32 4294967294#32 t s) (∑ x, half (hi 1#32 1#32) (mid 1) Q K B t x * half (hi 1#32 1#32) (mid 1) Q K B s x)
        (scores4 q l kk (ix3 n t s)) * v (ix3 n s x) := by
  unfold inside
  generalize scores4 q l kk = sc
  pointwise [k0_pay28, k0_pay27, posNo, rowNo, colNo]
  simp only [rotated2]
  simp only [hq, hk, hb]
  rfl

/-- So a chunk's own positions contribute their causal scores times their values. -/
theorem inside_value (hB : ∀ x s t, s ≤ t → B t x ≤ B s x) (v : FVec Ideal S32x64x128 .bf16) (t : Fin 64) (x : Fin 128) :
    inside q l kk v (ix3 n t x) = ∑ s, weight Q K B t s * v (ix3 n s x) := by
  rw [inside_levels q kk l n Q K B hq hk hb]
  refine Finset.sum_congr rfl fun s _ => congrArg (· * v (ix3 n s x)) ?_
  rw [scores4_value q kk l n Q K B hq hk hb, scores8_value q kk l n Q K B hq hk hb, scores16_value q kk l n Q K B hq hk hb]
  exact nested Q K B t s _ _ _ _ _ _
    (fun h => level _ _ Q K B hB t s (pairs64_spec t s h)) (fun h => level _ _ Q K B hB t s (pairs32_spec t s h))
    (fun h => level _ _ Q K B hB t s (pairs16_spec t s h)) (fun h => level _ _ Q K B hB t s (pairs8_spec t s h))
    (fun h => level _ _ Q K B hB t s (pairs4_spec t s h)) (fun h => level _ _ Q K B hB t s (pairs2_spec t s h))

end

end Cert.Hgrn

end
-- ==== Proof.HgrnOut.lean ====
/- The recurrence kernel's block of output: one head's recurrence of the columns the block was called with. -/
module

public import proofs.«01_k».proof.Proof.HgrnSpec
public import proofs.«01_k».proof.Proof.HgrnInside
public import proofs.«01_k».proof.Proof.HgrnStates

@[expose] public section

set_option maxRecDepth 16384

noncomputable section

namespace Cert.Hgrn

open Idealize.ShloMosaic Idealize.ShloMosaic.TcCoe Idealize.ShloMosaic.Tactic
open Cert.KernelIdeal Cert.KernelIdeal.Gen

section

variable (x0 x1 x2 : FVec Ideal S1x2048x128 .bf16) (x3 : FVec Ideal S1x1x128 .f32)

/-- A block's columns as one head's. -/
def cols (x : FVec Ideal S1x2048x128 .bf16) (r : Fin 2048) (d : Fin 128) : EReal := x (ix3 0 r d)
def bound (d : Fin 128) : EReal := x3 (ix3 0 0 d)

/-- The kernel's queries. -/
theorem q_value (n : Fin 32) (t : Fin 64) (d : Fin 128) : k0_pay7 (F := Ideal) x0 (ix3 n t d) = qs (cols x0) n t d := by
  pointwise [k0_pay7]
  unfold qs sigm cols
  rw [zero_sub]
  rfl

/-- The kernel's gates. -/
theorem gate_value (r : Fin 2048) (d : Fin 128) : k0_pay8 (F := Ideal) x3 x1 (ix2 r d) = gate (bound x3 d) (cols x1 r d) := by
  pointwise [k0_pay8]
  unfold gate sigm cols bound
  rw [zero_sub]

/-- Their logarithms. -/
theorem log_value (r : Fin 2048) (d : Fin 128) : k0_pay9 (F := Ideal) x3 x1 (ix2 r d) = gateLog (bound x3 d) (cols x1 r d) := by
  have h := gate_value x1 x3
  pointwise [k0_pay9]
  rw [h]
  rfl

/-- The kernel's keys. -/
theorem k_value (n : Fin 32) (t : Fin 64) (d : Fin 128) : k0_pay10 (F := Ideal) x3 x1 (ix3 n t d) = ks (cols x1) (bound x3) n t d := by
  have h := gate_value x1 x3
  pointwise [k0_pay10]
  rw [h]
  rfl

/-- The kernel's values. -/
theorem v_value (n : Fin 32) (t : Fin 64) (e : Fin 128) : k0_pay11 (F := Ideal) x2 (ix3 n t e) = vs (cols x2) n t e := by
  pointwise [k0_pay11]
  rfl

variable (hx : ∀ d, 0 ≤ bound x3 d ∧ bound x3 d ≤ 1)

include hx in
/-- The kernel's running sums. -/
theorem b_value (n : Fin 32) (t : Fin 64) (x : Fin 128) : k0_pay12 (F := Ideal) (k0_pay9 x3 x1) (ix3 n t x) = (bs (cols x1) (bound x3) n t x : EReal) :=
  pay12_value _ n (logs (cols x1) (bound x3) n) (fun s x => (log_value x1 x3 _ x).trans (gateLog_real _ _ (hx x).1 (hx x).2).1) t x

/-- One step of the state. -/
theorem step_value (A : FVec Ideal S128x128 .f32) (w : FVec Ideal S1x1x128 .f32) (u : FVec Ideal S1x128x128 .f32) (e d : Fin 128) :
    k0_pay5 A w u (ix2 e d) = A (ix2 e d) * w (ix3 0 0 d) + u (ix3 0 e d) := by
  pointwise [k0_pay5]

/-- A chunk's decay. -/
theorem decay_value (l : FVec Ideal S2048x128 .f32) (n : Fin 32) (d : Fin 128) :
    decay l (ix3 n 0 d) = Ideal.exp (k0_pay12 l (ix3 n 63 d)) := by
  unfold decay
  generalize k0_pay12 l = b
  pointwise [k0_pay2, k0_pay29]

/-- What a chunk adds to the state. -/
theorem added_value (l : FVec Ideal S2048x128 .f32) (kk : FVec Ideal S32x64x128 .f32) (v : FVec Ideal S32x64x128 .bf16) (n : Fin 32) (e d : Fin 128) :
    added l kk v (ix3 n e d)
      = ∑ s, v (ix3 n s e) * (kk (ix3 n s d) * Ideal.exp (k0_pay12 l (ix3 n 63 d) - k0_pay12 l (ix3 n s d))) := by
  unfold added
  generalize k0_pay12 l = b
  pointwise [k0_pay1, k0_pay30, k0_pay29]

include hx in
/-- The states the kernel keeps are those carried between chunks. -/
theorem acc_value (k : ℕ) (e d : Fin 128) :
    acc (F := Ideal) (decay (F := Ideal) (k0_pay9 x3 x1)) (added (F := Ideal) (k0_pay9 x3 x1) (k0_pay10 x3 x1) (k0_pay11 x2)) k (ix2 e d)
      = carried (ks (cols x1) (bound x3)) (vs (cols x2)) (bs (cols x1) (bound x3)) k e d := by
  induction k with
  | zero =>
    show k0_pay3 (F := Ideal) (ix2 e d) = 0
    pointwise [k0_pay3]
  | succ k ih =>
    rw [acc, carried]
    beta_reduce
    by_cases h : k < 32
    · rw [dif_pos h, dif_pos h, step_value, ih]
      refine congrArg₂ (· + ·) (congrArg _ ?_) ?_
      · show decay (F := Ideal) _ (ix3 ⟨k, h⟩ 0 d) = _
        rw [decay_value, b_value x1 x3 hx]
      · show added (F := Ideal) _ _ _ (ix3 ⟨k, h⟩ e d) = _
        rw [added_value, b_value x1 x3 hx]
        refine Finset.sum_congr rfl fun s _ => ?_
        rw [b_value x1 x3 hx, k_value, v_value]
    · rw [dif_neg h, dif_neg h, ih]

/-- How the block is put together. -/
theorem joined_value (q b xx : FVec Ideal S32x64x128 .f32) (st : FVec Ideal S32x128x128 .bf16) (r : Fin 2048) (d : Fin 128) :
    k0_pay6 q b xx st (ix3 0 r d) = xx (ix3 ⟨r.val / 64, by omega⟩ ⟨r.val % 64, by omega⟩ d)
      + ∑ x, q (ix3 ⟨r.val / 64, by omega⟩ ⟨r.val % 64, by omega⟩ x) * Ideal.exp (b (ix3 ⟨r.val / 64, by omega⟩ ⟨r.val % 64, by omega⟩ x))
          * st (ix3 ⟨r.val / 64, by omega⟩ d x) := by
  pointwise [k0_pay6]

/-- A state as it is stored. -/
theorem stored_value (E : FVec Ideal S32x1x128 .f32) (KV : FVec Ideal S32x128x128 .f32) (n : Fin 32) (e d : Fin 128) :
    states (F := Ideal) E KV (ix3 n e d) = acc (F := Ideal) E KV n.val (ix2 e d) := by
  show k0_pay4 (acc (F := Ideal) E KV n.val) (ix3 0 e d) = _
  generalize acc (F := Ideal) E KV n.val = A
  pointwise [k0_pay4]

include hx in
/-- The block: one head's recurrence. -/
theorem out_value (r : Fin 2048) (d : Fin 128) :
    out (F := Ideal) x0 x1 x2 x3 (ix3 0 r d) = headOut (cols x0) (cols x1) (cols x2) (bound x3) r d := by
  unfold out
  rw [joined_value]
  unfold headOut chunkOut
  refine congrArg₂ (· + ·) ?_ (Finset.sum_congr rfl fun x _ => ?_)
  · rw [inside_value _ _ _ _ (qs (cols x0) ⟨r.val / 64, by omega⟩) (ks (cols x1) (bound x3) ⟨r.val / 64, by omega⟩)
      (bs (cols x1) (bound x3) ⟨r.val / 64, by omega⟩) (fun t x => q_value x0 _ t x) (fun t x => k_value x1 x3 _ t x)
      (fun t x => b_value x1 x3 hx _ t x) (fun x s t h => bs_anti (cols x1) (bound x3) hx _ x s t h)]
    exact Finset.sum_congr rfl fun s _ => congrArg _ (v_value x2 _ s d)
  · rw [q_value, b_value x1 x3 hx, stored_value, acc_value x1 x2 x3 hx]

end

end Cert.Hgrn
-- ==== Proof.HgrnBody.lean ====
/- One grid point of the recurrence kernel, run once: what its output block holds, as a function of the four input blocks. -/
module

public import proofs.«01_k».proof.Proof.HgrnStates
public import proofs.«01_k».proof.Proof.Gen.KernelIdeal.Frame
public import Idealize.ShloMosaic.Lib.Pipeline.ValueKit
public import Idealize.ShloMosaic.Lib.Pointwise
public import Idealize.ShloMosaic.Lib.VecWindow

@[expose] public section

set_option maxRecDepth 16384

noncomputable section

namespace Cert.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at one grid point: whatever the output and the three scratch buffers hold, the output ends holding `out` of the inputs. -/
theorem body_run (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x1x128 .f32) (harg5 : arg5.IsWhole) (arg6 : Memref sig .tc .vmem S1x2048x128 .bf16) (harg6 : arg6.IsWhole) (arg7 : Memref sig .tc .vmem S32x128x128 .f32) (harg7 : arg7.IsWhole) (arg8 : Memref sig .tc .vmem S32x128x128 .bf16) (harg8 : arg8.IsWhole) (arg9 : Memref sig .tc .vmem S32x1x128 .f32) (harg9 : arg9.IsWhole)
    (x0 : Vec F S1x2048x128 .bf16) (x1 : Vec F S1x2048x128 .bf16) (x2 : Vec F S1x2048x128 .bf16) (x3 : Vec F S1x1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out x0 x1 x2 x3) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_hgrn2 i arg2 harg2 arg3 harg3 arg4 harg4 arg5 harg5 arg6 harg6 arg7 harg7 arg8 harg8 arg9 harg9) K := by
    intro E K
    simp only [cc0_hgrn2_eq_skeleton]; unfold cc0_hgrn2_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec
    sl_step
    have h2 : View.readAt (Elt F) arg2.view (Rect.unit ![0, 0, 0] S1x2048x128.size inb_S1x2048x128_S1x2048x128_0_0_0).toLoadRect (harg2.unread x0) = x0 :=
      (View.readAt_full _ _ _).trans hf0
    have h3 : View.readAt (Elt F) arg3.view (Rect.unit ![0, 0, 0] S1x2048x128.size inb_S1x2048x128_S1x2048x128_0_0_0).toLoadRect (harg3.unread x1) = x1 :=
      (View.readAt_full _ _ _).trans hf1
    have h4 : View.readAt (Elt F) arg4.view (Rect.unit ![0, 0, 0] S1x2048x128.size inb_S1x2048x128_S1x2048x128_0_0_0).toLoadRect (harg4.unread x2) = x2 :=
      (View.readAt_full _ _ _).trans hf2
    have h5 : View.readAt (Elt F) arg5.view (Rect.unit ![0, 0, 0] S1x1x128.size inb_S1x1x128_S1x1x128_0_0_0).toLoadRect (harg5.unread x3) = x3 :=
      (View.readAt_full _ _ _).trans hf3
    have e : body_run.sl.r c arg2 harg2 x0 = k0_pay7 x0 := by unfold body_run.sl.r; rw [h2]
    have e1 : body_run.sl.r_1 c arg3 harg3 arg5 harg5 x1 x3 = k0_pay9 x3 x1 := by unfold body_run.sl.r_1; rw [h3, h5]
    have e2 : body_run.sl.r_2 c arg3 harg3 arg5 harg5 x1 x3 = k0_pay10 x3 x1 := by unfold body_run.sl.r_2; rw [h3, h5]
    have e4 : body_run.sl.r_4 c arg4 harg4 x2 = k0_pay11 x2 := by unfold body_run.sl.r_4 body_run.sl.r_3; rw [h4]
    have e5 : body_run.sl.r_5 c arg3 harg3 arg5 harg5 x1 x3 = k0_pay12 (k0_pay9 x3 x1) := by unfold body_run.sl.r_5; rw [e1]
    have e6 : body_run.sl.r_6 c arg3 harg3 arg5 harg5 x1 x3 = k0_pay13 (k0_pay9 x3 x1) := by unfold body_run.sl.r_6; rw [e1]
    have e9 : body_run.sl.r_9 c arg2 harg2 arg3 harg3 arg5 harg5 x0 x1 x3 = scores64 (k0_pay7 x0) (k0_pay9 x3 x1) (k0_pay10 x3 x1) := by
      unfold body_run.sl.r_9 body_run.sl.r_7 body_run.sl.r_8; rw [e, e1, e2]; rfl
    have e11 : body_run.sl.r_11 c arg2 harg2 arg3 harg3 arg5 harg5 x0 x1 x3 = scores16 (k0_pay7 x0) (k0_pay9 x3 x1) (k0_pay10 x3 x1) := by
      unfold body_run.sl.r_11 body_run.sl.r_10; rw [e9, e5, e6, e, e2]; rfl
    have e12 : body_run.sl.r_12 c arg2 harg2 arg3 harg3 arg5 harg5 x0 x1 x3 = scores8 (k0_pay7 x0) (k0_pay9 x3 x1) (k0_pay10 x3 x1) := by
      unfold body_run.sl.r_12; rw [e11, e5, e6, e, e2]; rfl
    have e14 : body_run.sl.r_14 c arg2 harg2 arg3 harg3 arg5 harg5 x0 x1 x3 = scores4 (k0_pay7 x0) (k0_pay9 x3 x1) (k0_pay10 x3 x1) := by
      unfold body_run.sl.r_14 body_run.sl.r_13; rw [e12, e5, e, e2]; rfl
    have e15 : body_run.sl.r_15 c arg2 harg2 arg3 harg3 arg4 harg4 arg5 harg5 x0 x1 x2 x3
        = inside (k0_pay7 x0) (k0_pay9 x3 x1) (k0_pay10 x3 x1) (k0_pay11 x2) := by
      unfold body_run.sl.r_15; rw [e14, e5, e, e2, e4]; rfl
    have e16 : body_run.sl.r_16 c arg3 harg3 arg5 harg5 x1 x3 = k0_pay29 (k0_pay12 (k0_pay9 x3 x1)) := by unfold body_run.sl.r_16; rw [e5]
    have e17 : body_run.sl.r_17 c arg3 harg3 arg5 harg5 x1 x3 = k0_pay30 (k0_pay12 (k0_pay9 x3 x1)) := by unfold body_run.sl.r_17; rw [e5]
    have e7 : arg7.view.read (Elt F) (arg7.view.writes (Elt F) arg7.view.junk (body_run.sl.HS0_1 c arg3 harg3 arg4 harg4 arg5 harg5 x1 x2 x3))
        = added (k0_pay9 x3 x1) (k0_pay10 x3 x1) (k0_pay11 x2) := by
      unfold body_run.sl.HS0_1; rw [e2, e4, e17]; exact View.read_writes_full _ _ _ _ _
    have e9' : arg9.view.read (Elt F) (arg9.view.writes (Elt F) arg9.view.junk (body_run.sl.HS2_1 c arg3 harg3 arg5 harg5 x1 x3)) = decay (k0_pay9 x3 x1) := by
      unfold body_run.sl.HS2_1; rw [e16]; exact View.read_writes_full _ _ _ _ _
    have e338 : body_run.sl.v338 c i arg2 harg2 arg3 harg3 arg4 harg4 arg5 harg5 arg6 harg6 arg7 harg7 arg8 harg8 arg9 harg9 x1 x2 x3 fs1
        = states (decay (k0_pay9 x3 x1)) (added (k0_pay9 x3 x1) (k0_pay10 x3 x1) (k0_pay11 x2)) := by
      unfold body_run.sl.v338
      exact (View.readAt_full _ _ _).trans (loop_read Variants.none c none i arg2 harg2 arg3 harg3 arg4 harg4 arg5 harg5 arg6 harg6 arg7 harg7 arg8 harg8 arg9 harg9
        _ _ fs1 _ _ e7 e9')
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      rw [e, e5, e15, e338]
      exact View.read_writes_full _ _ _ _ _
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Hgrn

end
-- ==== Proof.HgrnFrame.lean ====
/- The recurrence kernel's whole run: every block of its output is `out` of the blocks it was called with, and its arguments end as they began. -/
module

public import proofs.«01_k».proof.Proof.HgrnBody
public import Idealize.ShloMosaic.Lib.Claim

@[expose] public section

set_option maxRecDepth 16384

noncomputable section

namespace Cert.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the windows are staged in at a grid point. -/
abbrev stg0 (t : Fin cfg0.N) : Memref sig .tc .vmem S1x2048x128 .bf16 := win0_0.stage (cfg0.slots t 0)
abbrev stg1 (t : Fin cfg0.N) : Memref sig .tc .vmem S1x2048x128 .bf16 := win0_1.stage (cfg0.slots t 1)
abbrev stg2 (t : Fin cfg0.N) : Memref sig .tc .vmem S1x2048x128 .bf16 := win0_2.stage (cfg0.slots t 2)
abbrev stg3 (t : Fin cfg0.N) : Memref sig .tc .vmem S1x1x128 .f32 := win0_3.stage (cfg0.slots t 3)
abbrev stg4 (t : Fin cfg0.N) : Memref sig .tc .vmem S1x2048x128 .bf16 := win0_4.stage (cfg0.slots t 4)

/-- The kernel's own scratch buffers. -/
abbrev scr0 : Memref sig .tc .vmem S32x128x128 .f32 := Memref.whole cc0_scratch0
abbrev scr1 : Memref sig .tc .vmem S32x128x128 .bf16 := Memref.whole cc0_scratch1
abbrev scr2 : Memref sig .tc .vmem S32x1x128 .f32 := Memref.whole cc0_scratch2

/-- Between two grid points the scratch buffers hold anything. -/
theorem rest_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The run's data: inputs stay at their blocks, the output's buffer ends at `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (F := F) (iblk m c 0 t) (iblk m c 1 t) (iblk m c 2 t) (iblk m c 3 t)
  Φ _ := Pipeline.ΦA spec0 c
  q w := Pipeline.shareOf spec0 w
  owed _ := 0

/-- The data's arrays are those the region finds. -/
theorem A_eq (c : Dev nD) (w : Fin cfg0.W) : (dats m 0 c).A w = V m c (Pipeline.arrRef spec0 w) := by dsimp only [dats]

/-- What the body leaves in each window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = out (F := F) (iblk m c 0 t) (iblk m c 1 t) (iblk m c 2 t) (iblk m c 3 t) := by
  dsimp only [dats]

/-- What each input window holds before the body: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

set_option maxHeartbeats 800000 in
/-- The body does so at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, rest_eq]
  iintro ⟨⟨⟨HS0, HS1, HS2⟩, Hg⟩, Ho, ⟨%d0, H0⟩, ⟨%d1, H1⟩, ⟨%d2, H2⟩, ⟨%d3, H3⟩, ⟨%d4, H4⟩⟩
  iapply ((body_run c (grid0.coords t) _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  iexact H4

/-- The body that the pipeline calls at a point. -/
theorem row (t : Fin cfg0.N) : defs₀ (F := F) .tc cfg0.body (cfg0.bodyArgs t (cfg0.slots t)) = bodyAt0 t := by
  unfold defs₀; rw [Defs.onTc_tc]

/-- So the pipeline's body obligation holds. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The run, with every counter of the machine at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.FramePost cfgs (dats m) 0 (V m)) :=
  (θ_run defs _ _).mono (fun _ h => h.1) (run_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.Hgrn

end
-- ==== Proof.HgrnArray.lean ====
/- The recurrence kernel's output array: each head's recurrence of that head's columns. -/
module

public import proofs.«01_k».proof.Proof.HgrnOut
public import proofs.«01_k».proof.Proof.HgrnFrame
public import Idealize.ShloMosaic.Lib.Pipeline.ValueKit
public import Idealize.ShloMosaic.Lib.Pointwise

@[expose] public section

set_option maxRecDepth 16384

noncomputable section

namespace Cert.Hgrn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (ρ : Dev nD → PrngReg)

/-- The columns of one head in one batch, from a starting column of the projected array. -/
def headCols (o : ℕ) (ho : o + 1024 ≤ 17408) (U : Vec Ideal S8x2048x17408 .bf16) (b h : Fin 8) (r : Fin 2048) (d : Fin 128) : EReal :=
  U (ix3 b r ⟨o + h.val * 128 + d.val, by omega⟩)

/-- One head's gate bounds. -/
def headBound (L : Vec Ideal S8x1x128 .f32) (h : Fin 8) (d : Fin 128) : EReal := L (ix3 h 0 d)

/-- What both programs compute: the recurrence head by head. -/
def G (U : Vec Ideal S8x2048x17408 .bf16) (L : Vec Ideal S8x1x128 .f32) (b h : Fin 8) (r : Fin 2048) (e : Fin 128) : EReal :=
  headOut (headCols 7168 (by decide) U b h) (headCols 8192 (by decide) U b h) (headCols 9216 (by decide) U b h) (headBound L h) r e

/-- The same at coordinates that agree. -/
theorem G_congr (U : Vec Ideal S8x2048x17408 .bf16) (L : Vec Ideal S8x1x128 .f32) {b b' h h' : Fin 8} {r r' : Fin 2048} {e e' : Fin 128}
    (hb : b = b') (hh : h = h') (hr : r = r') (he : e = e') : G U L b h r e = G U L b' h' r' e' := by
  rw [hb, hh, hr, he]

/-- Where each window's block lies at each point. -/
theorem idx : ∀ t : Fin cfg0.N, win0_0.index t = ![t.val / 8, 0, 56 + t.val % 8] ∧ win0_1.index t = ![t.val / 8, 0, 64 + t.val % 8]
    ∧ win0_2.index t = ![t.val / 8, 0, 72 + t.val % 8] ∧ win0_3.index t = ![t.val % 8, 0, 0] ∧ win0_4.index t = ![t.val / 8, 0, t.val % 8] :=
  (by decide +kernel : ∀ t : Fin grid0.N, _)

/-- Device `c`'s arguments as arrays. -/
abbrev aU (c : Dev nD) : Vec Ideal S8x2048x17408 .bf16 := m ((c : Thread nD τ).loc main_arg0)
abbrev aL (c : Dev nD) : Vec Ideal S8x1x128 .f32 := m ((c : Thread nD τ).loc main_arg1)

/-- The batch and the head of a point. -/
def batchOf (t : Fin cfg0.N) : Fin 8 := ⟨t.val / 8, Nat.div_lt_of_lt_mul t.isLt⟩
def headOf (t : Fin cfg0.N) : Fin 8 := ⟨t.val % 8, Nat.mod_lt _ (by decide)⟩

theorem blk0 (c : Dev nD) (t : Fin cfg0.N) : cols (iblk m c 0 t) = headCols 7168 (by decide) (aU m c) (batchOf t) (headOf t) := by
  funext r d
  unfold cols headCols batchOf headOf
  blk_point [iblk, V, idx t]

theorem blk1 (c : Dev nD) (t : Fin cfg0.N) : cols (iblk m c 1 t) = headCols 8192 (by decide) (aU m c) (batchOf t) (headOf t) := by
  funext r d
  unfold cols headCols batchOf headOf
  blk_point [iblk, V, idx t]

theorem blk2 (c : Dev nD) (t : Fin cfg0.N) : cols (iblk m c 2 t) = headCols 9216 (by decide) (aU m c) (batchOf t) (headOf t) := by
  funext r d
  unfold cols headCols batchOf headOf
  blk_point [iblk, V, idx t]

theorem blk3 (c : Dev nD) (t : Fin cfg0.N) : bound (iblk m c 3 t) = headBound (aL m c) (headOf t) := by
  funext d
  unfold bound headBound headOf
  blk_point [iblk, V, idx t]

/-- The kernel's output array. -/
theorem out_kernel (c : Dev nD) (hl : ∀ h d, 0 ≤ headBound (aL m c) h d ∧ headBound (aL m c) h d ≤ 1) :
    (dats m 0 c).arrAt 4 cfg0.N = fun j : S8x2048x1024.Idx =>
      G (aU m c) (aL m c) (j 0) ⟨(j 2).val / 128, Nat.div_lt_of_lt_mul (j 2).isLt⟩ (j 1) ⟨(j 2).val % 128, Nat.mod_lt _ (by decide)⟩ := by
  refine (dats m 0 c).arrAt_eq_of_covers 4 _ (by decide +kernel) fun t hf y => ?_
  blk_simp
  rw [after_4]
  have hy : (ix3 0 (y 1) (y 2) : S1x2048x128.Idx) = y := by blk_ext
  have h := out_value (iblk m c 0 t) (iblk m c 1 t) (iblk m c 2 t) (iblk m c 3 t) (by rw [blk3]; exact hl _) (y 1) (y 2)
  rw [hy, blk0, blk1, blk2, blk3] at h
  have hi : win0_4.index t 2 = t.val % 8 := by rw [(idx t).2.2.2.2]; rfl
  have hz : (y 2).val < 128 := (y 2).isLt
  have h0 : batchOf t = (win0_4.blk t).view.emb y 0 := by
    apply Fin.ext
    blk_simp [batchOf, idx t]
  have h1 : y 1 = (win0_4.blk t).view.emb y 1 := by
    apply Fin.ext
    blk_simp [idx t]
  refine h.trans (G_congr _ _ h0 (Fin.ext ?_) h1 (Fin.ext ?_))
  · show t.val % 8 = (win0_4.index t 2 * 128 + (y 2).val) / 128
    rw [hi]
    omega
  · show (y 2).val = (win0_4.index t 2 * 128 + (y 2).val) % 128
    rw [hi]
    omega

/-- The kernel's run: the result array at the recurrence, head by head. -/
theorem run (hl : ∀ c h d, 0 ≤ headBound (aL m c) h d ∧ headBound (aL m c) h d ≤ 1) :
    θ_run defs (onTc (τ := τ) (main (F := Ideal))) ⟨m, fun _ => 0, ρ⟩ fun r => ∀ c : Dev nD,
      r.2.mem ((c : Thread nD τ).loc main_v0) = (fun j : S8x2048x1024.Idx =>
        G (aU m c) (aL m c) (j 0) ⟨(j 2).val / 128, Nat.div_lt_of_lt_mul (j 2).isLt⟩ (j 1) ⟨(j 2).val % 128, Nat.mod_lt _ (by decide)⟩)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 4).trans (out_kernel m c (hl c)),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c)))⟩) (run_main m ρ)

end Cert.Hgrn
-- ==== Proof.HgrnEntryValue.lean ====
/- What the reference's loop starts from, entry by entry: the queries, keys, values and running sums of each head's chunks. -/
module

public import proofs.«01_k».proof.Proof.HgrnEntry
public import proofs.«01_k».proof.Proof.HgrnCumsum
public import proofs.«01_k».proof.Proof.HgrnArray

@[expose] public section

set_option maxRecDepth 16384

noncomputable section

namespace Cert.HgrnRef

open Idealize.ShloMosaic Idealize.ShloMosaic.TcCoe Idealize.ShloMosaic.Tactic
open Cert.ReferenceIdeal Cert.ReferenceIdeal.Gen Cert.ReferenceIdeal.Facts

variable (U : FVec Ideal S8x2048x17408 .bf16) (L : FVec Ideal S8x1x128 .f32)

/-- A head's query, forget and value columns. -/
theorem headsQ (b h : Fin 8) (r : Fin 2048) (d : Fin 128) : heads (F := Ideal) (colQ U) (ix4 b h r d) = Hgrn.headCols 7168 (by decide) U b h r d := by
  pointwise [heads, colQ]
  exact congrArg (fun i => U (ix3 b r i)) (Fin.ext (Nat.add_assoc _ _ _).symm)

theorem headsF (b h : Fin 8) (r : Fin 2048) (d : Fin 128) : heads (F := Ideal) (colF U) (ix4 b h r d) = Hgrn.headCols 8192 (by decide) U b h r d := by
  pointwise [heads, colF]
  exact congrArg (fun i => U (ix3 b r i)) (Fin.ext (Nat.add_assoc _ _ _).symm)

theorem headsV (b h : Fin 8) (r : Fin 2048) (d : Fin 128) : heads (F := Ideal) (colV U) (ix4 b h r d) = Hgrn.headCols 9216 (by decide) U b h r d := by
  pointwise [heads, colV]
  exact congrArg (fun i => U (ix3 b r i)) (Fin.ext (Nat.add_assoc _ _ _).symm)

/-- The chunks of an array read its rows. -/
theorem chunks_value (x : FVec Ideal S8x8x2048x128 .f32) (n : Fin 32) (b h : Fin 8) (t : Fin 64) (d : Fin 128) :
    chunks x (ix5 n b h t d) = x (ix4 b h (Hgrn.rowAt n t) d) := by
  pointwise [chunks, first]
  all_goals rfl

/-- The sigmoid of an array. -/
theorem sigA_value (x : FVec Ideal S8x8x2048x128 .f32) (b h : Fin 8) (r : Fin 2048) (d : Fin 128) :
    sigA x (ix4 b h r d) = Hgrn.sigm (x (ix4 b h r d)) := by
  pointwise [sigA]
  rfl

/-- The gates. -/
theorem gates_value (x : FVec Ideal S8x8x2048x128 .f32) (b h : Fin 8) (r : Fin 2048) (d : Fin 128) :
    gates L x (ix4 b h r d) = Hgrn.gate (Hgrn.headBound L h d) (x (ix4 b h r d)) := by
  have e := sigA_value x b h r d
  pointwise [gates]
  rw [e]
  rfl

/-- Their logarithms. -/
theorem gateLogs_value (x : FVec Ideal S8x8x2048x128 .f32) (b h : Fin 8) (n : Fin 32) (t : Fin 64) (d : Fin 128) :
    gateLogs L x (ix5 b h n t d) = Hgrn.gateLog (Hgrn.headBound L h d) (x (ix4 b h (Hgrn.rowAt n t) d)) := by
  have e := gates_value L x b h (Hgrn.rowAt n t) d
  pointwise [gateLogs]
  exact congrArg (fun g => Ideal.log (max g Hgrn.floor)) e

/-- The mask. -/
theorem mask_iff (t s : Fin 64) : mask (ix3 t s 0) = 1#1 ↔ s ≤ t := by
  have e := Hgrn.later_iff t s
  pointwise [mask]
  have e0 : IntOp.addi (BitVec.ofNat 32 t.val) 0#32 = BitVec.ofNat 32 t.val := BitVec.add_zero _
  rw [e0, ← e]
  unfold Scalar.select
  by_cases c : IntOp.cmpi CmpIPredicate.sge (BitVec.ofNat 32 t.val) (BitVec.ofNat 32 s.val) = 1
  · rw [if_pos c]
    exact ⟨fun _ => c, fun _ => rfl⟩
  · rw [if_neg c]
    exact ⟨fun h => absurd h (by decide), fun h => absurd h c⟩

/-- The queries by chunks. -/
theorem q_entry (n : Fin 32) (b h : Fin 8) (t : Fin 64) (d : Fin 128) :
    chunks (mulf (heads (colQ U)) (sigA (heads (colQ U)))) (ix5 n b h t d) = Hgrn.qs (Hgrn.headCols 7168 (by decide) U b h) n t d := by
  rw [chunks_value, mulf_apply, sigA_value, headsQ]
  rfl

/-- The keys by chunks. -/
theorem k_entry (n : Fin 32) (b h : Fin 8) (t : Fin 64) (d : Fin 128) :
    chunks (subf (broadcastInDim S8x8x2048x128 ![] bcast_S_S8x8x2048x128 (constant (F := Ideal) S_ .f32 0x3F800000#32)) (gates L (heads (colF U)))) (ix5 n b h t d)
      = Hgrn.ks (Hgrn.headCols 8192 (by decide) U b h) (Hgrn.headBound L h) n t d := by
  have e := gates_value L (heads (colF U)) b h (Hgrn.rowAt n t) d
  rw [headsF] at e
  rw [chunks_value]
  pointwise []
  rw [e]
  rfl

/-- The values by chunks. -/
theorem v_entry (n : Fin 32) (b h : Fin 8) (t : Fin 64) (d : Fin 128) :
    chunks (heads (F := Ideal) (colV U)) (ix5 n b h t d) = Hgrn.vs (Hgrn.headCols 9216 (by decide) U b h) n t d := by
  rw [chunks_value, headsV]
  rfl

/-- The running sums by chunks. -/
theorem b_entry (hl : ∀ h d, 0 ≤ Hgrn.headBound L h d ∧ Hgrn.headBound L h d ≤ 1) (n : Fin 32) (b h : Fin 8) (t : Fin 64) (d : Fin 128) :
    first (sums (gateLogs L (heads (colF U)))) (ix5 n b h t d)
      = (Hgrn.bs (Hgrn.headCols 8192 (by decide) U b h) (Hgrn.headBound L h) n t d : EReal) := by
  have e : first (sums (gateLogs L (heads (colF U)))) (ix5 n b h t d) = sums (gateLogs L (heads (colF U))) (ix5 b h n t d) := by
    pointwise [first]
  rw [e]
  refine (cumsum_value _ _ (fun i => by pointwise []) b h n t d).trans ?_
  refine Eq.trans ?_ (Hgrn.coe_sum_if (fun s => Hgrn.logs (Hgrn.headCols 8192 (by decide) U b h) (Hgrn.headBound L h) n s d) (fun s => s ≤ t)).symm
  refine Finset.sum_congr rfl fun s _ => ?_
  split
  · rw [gateLogs_value, headsF]
    exact (Hgrn.gateLog_real _ _ (hl h d).1 (hl h d).2).1
  · rfl

end Cert.HgrnRef
-- ==== Proof.HgrnLoop.lean ====
/- The reference's loop trip by trip, and the result it leaves: every head's recurrence. -/
module

public import proofs.«01_k».proof.Proof.HgrnTrip
public import proofs.«01_k».proof.Proof.HgrnEntryValue

@[expose] public section

set_option maxRecDepth 16384

noncomputable section

namespace Cert.HgrnRef

open Idealize.ShloMosaic Idealize.ShloMosaic.TcCoe Idealize.SL.Sem Idealize.ShloMosaic.StableHlo Idealize.ShloMosaic.Tactic
open Cert.ReferenceIdeal Cert.ReferenceIdeal.Gen Cert.ReferenceIdeal.Facts Cert.ReferenceIdeal.Value

/-- The loop's counter goes up by one. -/
theorem iv_succ : ∀ k : Fin 32, IntOp.addi (Scf.iv 0#32 1#32 k.val) 1#32 = Scf.iv 0#32 1#32 (k.val + 1) := by decide +kernel

section

variable (V0 : Valuation τ sig (Elt Ideal)) (Q K V : Fin 8 → Fin 8 → Fin 32 → Fin 64 → Fin 128 → EReal) (B : Fin 8 → Fin 8 → Fin 32 → Fin 64 → Fin 128 → ℝ)

/-- What holds after `k` trips: the constants, the counter, the state carried so far and the rows of the chunks passed. -/
structure Inv (k : ℕ) : Prop where
  c : Consts V0 Q K V B
  ctr : (V0 (Proc.devRef .tc main_v46_5) : IVec S_ 32) = fun _ => Scf.iv 0#32 1#32 k
  s : ∀ b h d e, (V0 (Proc.devRef .tc main_v46_6) : FVec Ideal S8x8x128x128 .f32) (ix4 b h d e) = Hgrn.carried (K b h) (V b h) (B b h) k e d
  o : ∀ (n : Fin 32) b h t e, n.val < k → (V0 (Proc.devRef .tc main_v46_7) : FVec Ideal S32x8x8x64x128 .f32) (ix5 n b h t e) = Hgrn.chunkOut (Q b h) (K b h) (V b h) (B b h) n t e

variable {V0 Q K V B}

/-- One trip keeps it. -/
theorem Inv.step (k : Fin 32) (h : Inv V0 Q K V B k.val) : Inv (STEP V0) Q K V B (k.val + 1) where
  c := ⟨fun n b i t d => (congrFun (STEP_main_v46_0 V0) _).trans (h.c.q n b i t d), fun n b i t d => (congrFun (STEP_main_v46_1 V0) _).trans (h.c.k n b i t d),
    fun n b i t d => (congrFun (STEP_main_v46_2 V0) _).trans (h.c.v n b i t d), fun n b i t d => (congrFun (STEP_main_v46_3 V0) _).trans (h.c.b n b i t d),
    fun t s => by rw [STEP_main_v46_4 V0]; exact h.c.m t s⟩
  ctr := by
    rw [STEP_main_v46_5 V0]
    unfold step_main_v46_5
    rw [h.ctr]
    exact funext fun _ => iv_succ k
  s := fun b i d e => (congrFun (STEP_main_v46_6 V0) _).trans (state_trip h.c k h.ctr h.s b i d e)
  o := fun n b i t e hn => by
    refine (congrFun (STEP_main_v46_7 V0) _).trans ((out_trip h.c k h.ctr h.s n b i t e).trans ?_)
    by_cases c : n = k
    · rw [if_pos c, c]
    · rw [if_neg c]
      have c' : n.val ≠ k.val := fun e => c (Fin.ext e)
      exact h.o n b i t e (by omega)

/-- So it holds after every trip. -/
theorem Inv.iterate (h : Inv V0 Q K V B 0) : ∀ k, k ≤ 32 → Inv (STEP^[k] V0) Q K V B k
  | 0, _ => h
  | k + 1, hk => by
    rw [Function.iterate_succ_apply']
    exact Inv.step ⟨k, hk⟩ (Inv.iterate h k (by omega))

/-- The result by heads and rows, of the rows stored. -/
theorem out_value (h : Inv V0 Q K V B 32) (b : Fin 8) (r : Fin 2048) (o : Fin 1024) :
    out_main_v51 V0 (ix3 b r o) = Hgrn.chunkOut (Q b ⟨o.val / 128, by omega⟩) (K b ⟨o.val / 128, by omega⟩) (V b ⟨o.val / 128, by omega⟩) (B b ⟨o.val / 128, by omega⟩)
      ⟨r.val / 64, by omega⟩ ⟨r.val % 64, by omega⟩ ⟨o.val % 128, by omega⟩ := by
  have e := h.o ⟨r.val / 64, by omega⟩ b ⟨o.val / 128, by omega⟩ ⟨r.val % 64, by omega⟩ ⟨o.val % 128, by omega⟩ (by show r.val / 64 < 32; omega)
  refine Eq.trans ?_ e
  pointwise [out_main_v51]

end

variable (m : (ℓ : Loc nD τ sig) → Buf (Elt Ideal) ℓ) (c : Dev nD)

/-- The reference's arguments. -/
abbrev bU : FVec Ideal S8x2048x17408 .bf16 := m ((c.tc : Thread nD τ).loc main_arg0)
abbrev bL : FVec Ideal S8x1x128 .f32 := m ((c.tc : Thread nD τ).loc main_arg1)

/-- At the loop's entry it holds. -/
theorem entry_inv (hl : ∀ h d, 0 ≤ Hgrn.headBound (bL m c) h d ∧ Hgrn.headBound (bL m c) h d ≤ 1) :
    Inv (entryContents preI m c) (fun b h => Hgrn.qs (Hgrn.headCols 7168 (by decide) (bU m c) b h))
      (fun b h => Hgrn.ks (Hgrn.headCols 8192 (by decide) (bU m c) b h) (Hgrn.headBound (bL m c) h))
      (fun b h => Hgrn.vs (Hgrn.headCols 9216 (by decide) (bU m c) b h))
      (fun b h => Hgrn.bs (Hgrn.headCols 8192 (by decide) (bU m c) b h) (Hgrn.headBound (bL m c) h)) 0 where
  c := ⟨fun n b h t d => (congrFun (entry_0 m c) _).trans (q_entry _ n b h t d), fun n b h t d => (congrFun (entry_1 m c) _).trans (k_entry _ _ n b h t d),
    fun n b h t d => (congrFun (entry_2 m c) _).trans (v_entry _ n b h t d), fun n b h t d => (congrFun (entry_3 m c) _).trans (b_entry _ _ hl n b h t d),
    fun t s => by rw [entry_4 m c]; exact mask_iff t s⟩
  ctr := by rw [ctr_entry m c, Scf.iv_zero]
  s := fun b h d e => by
    refine (congrFun (entry_6 m c) _).trans ?_
    rw [Hgrn.carried]
    pointwise []
  o := fun n b h t e hn => absurd hn (Nat.not_lt_zero _)

/-- The result the reference leaves is every head's recurrence. -/
theorem out_reference (hl : ∀ h d, 0 ≤ Hgrn.headBound (bL m c) h d ∧ Hgrn.headBound (bL m c) h d ≤ 1) :
    out_main_v51 (STEP^[32] (entryContents preI m c)) = (fun j : S8x2048x1024.Idx =>
      Hgrn.G (bU m c) (bL m c) (j 0) ⟨(j 2).val / 128, Nat.div_lt_of_lt_mul (j 2).isLt⟩ (j 1) ⟨(j 2).val % 128, Nat.mod_lt _ (by decide)⟩) := by
  funext j
  idx_vars j
  exact out_value ((entry_inv m c hl).iterate 32 le_rfl) _ _ _

end Cert.HgrnRef
-- ==== Proof.HgrnClaim.lean ====
/- The recurrence: what the precondition says of the lower bounds, and the claims. -/
module

public import proofs.«01_k».proof.Defs
public import proofs.«01_k».proof.Proof.HgrnLoop
public import proofs.«01_k».proof.Proof.HgrnFrame
public import proofs.«01_k».proof.Proof.HgrnBitsFrame
public import proofs.«01_k».proof.Proof.Gen.Pre_lower_bound
public import Idealize.ShloMosaic.Lib.ReduceAll
public import Idealize.ShloMosaic.Lib.Quiescent

@[expose] public section

set_option maxRecDepth 16384

noncomputable section

namespace Cert.Hgrn

open Idealize.ShloMosaic Idealize.ShloMosaic.TcCoe Idealize.SL.Sem Idealize.ShloMosaic.Tactic

/-- There is one index of no axes. -/
instance : Subsingleton Cert.Pre_lower_bound.S_.Idx := ⟨fun i j => funext fun a => a.elim0⟩

/-- The precondition: every lower bound lies between zero and one. -/
theorem bounds (U : FVec Ideal Cert.Pre_lower_bound.S8x2048x17408 .bf16) (L : FVec Ideal Cert.Pre_lower_bound.S8x1x128 .f32)
    (hp : Cert.Pre_lower_bound.fn (F := Ideal) U L = fun _ => 1#1) (h : Fin 8) (d : Fin 128) : 0 ≤ headBound L h d ∧ headBound L h d ≤ 1 := by
  have e := congrFun hp (fun a => a.elim0)
  dsimp only [Cert.Pre_lower_bound.fn] at e
  have e' := Host.reduce_andi_all _ _ _ _ _ e (ix3 h 0 d)
  have e'' : IntOp.andi (BitVec.ofBool (decide ((0 : EReal) ≤ L (ix3 h 0 d)))) (BitVec.ofBool (decide (L (ix3 h 0 d) ≤ (1 : EReal)))) = 1#1 := by
    refine Eq.trans ?_ e'
    pointwise []
  have hb : ∀ p : Bool, BitVec.ofBool p = 1#1 → p = true := by decide
  obtain ⟨h0, h1⟩ := IntOp.andi_eq_one.1 e''
  exact ⟨of_decide_eq_true (hb _ h0), of_decide_eq_true (hb _ h1)⟩

/-- The fused recurrence kernel and the plainly written recurrence leave the same result. -/
theorem equal : Cert.algebraic_KernelIdeal_ReferenceIdeal_pre_lower_bound := by
  intro m g m' g' hpre hagree
  have hl := fun c => bounds _ _ (hpre c)
  refine ⟨fun c => (fun j : Cert.KernelIdeal.S8x2048x1024.Idx =>
        G (aU m c) (aL m c) (j 0) ⟨(j 2).val / 128, Nat.div_lt_of_lt_mul (j 2).isLt⟩ (j 1) ⟨(j 2).val % 128, Nat.mod_lt _ (by decide)⟩), run m g hl, ?_⟩
  refine (θ_run _ _ _).mono (fun r h c => ⟨(h c).1.trans ?_, (h c).2⟩) (Cert.ReferenceIdeal.Value.run m' g')
  obtain ⟨h0, h1⟩ := hagree c
  have e0 : HgrnRef.bU m' c = aU m c := h0
  have e1 : HgrnRef.bL m' c = aL m c := h1
  have hl' : ∀ h d, 0 ≤ headBound (HgrnRef.bL m' c) h d ∧ headBound (HgrnRef.bL m' c) h d ≤ 1 := by
    rw [e1]
    exact hl c
  refine (HgrnRef.out_reference m' c hl').trans ?_
  rw [e0, e1]

/-- The printed program runs and leaves its arguments. -/
theorem frame_kernel : Cert.quiescent_Kernel := fun m ρ _ => Cert.HgrnBits.frame m ρ

/-- So does its idealization. -/
theorem frame_ideal : Cert.quiescent_KernelIdeal := fun m ρ _ => Cert.Hgrn.frame m ρ
theorem frame_ideal_pre : Cert.quiescent_KernelIdeal_pre_lower_bound := fun m ρ _ => Cert.Hgrn.frame m ρ

/-- So does the reference. -/
theorem frame_reference : Cert.quiescent_ReferenceIdeal := fun m ρ _ =>
  (θ_run _ _ _).mono (fun _ h => ⟨fun c => (h c).2, sem_eq_zero_of_no_sems rfl _⟩) (Cert.ReferenceIdeal.Value.run m ρ)
theorem frame_reference_pre : Cert.quiescent_ReferenceIdeal_pre_lower_bound := fun m ρ _ => frame_reference m ρ trivial

/-- Nothing was rewritten. -/
theorem same : Cert.preserves_Kernel_KernelIdeal := trivial

end Cert.Hgrn
-- ==== Proof.FfnPay.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem
open Cert.Kernel2Ideal Cert.Kernel2Ideal.Gen

/-- The scale of a row's root-mean-square norm: one over the root of the mean square plus the norm's epsilon. -/
def rs (f : Fin 2048 → EReal) : EReal :=
  Ideal.rsqrt (Ideal.div (∑ x, f x * f x) (Ideal.ofBits .f32 1157627904#32) + Ideal.ofBits .f32 897988541#32)

/-- One hidden unit of the gated layer: with `a` the gate's product and `b` the other's, `silu a * b`. -/
def unit (h wg wu : Fin 2048 → EReal) : EReal :=
  (∑ d, h d * wg d) * Ideal.div 1 (1 + Ideal.exp (0 - ∑ d, h d * wg d)) * ∑ d, h d * wu d

/-- The literal one half of the half step. -/
abbrev half : EReal := Ideal.ofBits .f32 1056964608#32

/-- The normalized block a run of points starts with, at an index. -/
theorem pay2 (x : Vec Ideal S1024x2048 .f32) (g : Vec Ideal S1x2048 .f32) (r : Fin 1024) (d : Fin 2048) :
    k0_pay2 (F := Ideal) x g (ix2 r d) = x (ix2 r d) * rs (fun e => x (ix2 r e)) * g (ix2 0 d) := by
  pointwise [k0_pay2]
  rfl

/-- The final norm of a finished block, at an index. -/
theorem pay1 (x : Vec Ideal S1024x2048 .f32) (g : Vec Ideal S1x2048 .f32) (r : Fin 1024) (d : Fin 2048) :
    k0_pay1 (F := Ideal) x g (ix2 r d) = x (ix2 r d) * rs (fun e => x (ix2 r e)) * g (ix2 0 d) := by
  pointwise [k0_pay1]
  rfl

/-- One point's step: what the block held before plus the part of 256 hidden units. -/
theorem pay3 (h : Vec Ideal S1024x2048 .bf16) (wg wu : Vec Ideal S1x2048x256 .f32)
    (acc : Vec Ideal S1024x2048 .f32) (wd : Vec Ideal S1x256x2048 .f32) (r : Fin 1024) (e : Fin 2048) :
    k0_pay3 (F := Ideal) h wg wu acc wd (ix2 r e)
      = acc (ix2 r e) + ∑ k : Fin 256, unit (fun d => h (ix2 r d)) (fun d => wg (ix3 0 d k)) (fun d => wu (ix3 0 d k))
          * half * wd (ix3 0 k e) := by
  pointwise [k0_pay3]
  rfl

end Cert.Ffn
-- ==== Proof.FfnFold.lean ====
module

public import proofs.«01_k».proof.Defs
public import proofs.«01_k».proof.Proof.FfnPay
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ)

/-- A run's first point: the norm of the activations' block, and the block plus the first part. -/
theorem at_first (c : Dev nD) (t : Fin cfg0.N) (h0 : t.val % 22 = 0) :
    outsAt0 m c t.val t.isLt = (k0_pay3 (k0_pay2 (iblk m c 0 t) (iblk m c 1 t)) (iblk m c 2 t) (iblk m c 3 t) (iblk m c 0 t) (iblk m c 4 t),
      k0_pay2 (iblk m c 0 t) (iblk m c 1 t)) := by
  rw [outsAt0_A m c t h0 (by omega)]
  frame_out

/-- A point inside a run adds its part to what the point before left. -/
theorem at_mid (c : Dev nD) (t : Fin cfg0.N) (h0 : ¬t.val % 22 = 0) (h1 : ¬t.val % 22 = 21) :
    outsAt0 m c t.val t.isLt = (k0_pay3 (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t),
      (outsAt0 m c (t.val - 1) (Nat.lt_of_le_of_lt (Nat.sub_le _ _) t.isLt)).2) := by
  rw [outsAt0_B m c t h0 h1]
  frame_out
  rw [show View.read (Elt Ideal) (View.whole cc0_scratch0) _ = _ from Memref.IsWhole.read_unread (Memref.isWhole_whole cc0_scratch0) _]
  rfl

/-- A run's last point adds its part and takes the final norm. -/
theorem at_last (c : Dev nD) (t : Fin cfg0.N) (h1 : t.val % 22 = 21) :
    outsAt0 m c t.val t.isLt = (k0_pay1 (k0_pay3 (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t)) (iblk m c 5 t),
      (outsAt0 m c (t.val - 1) (Nat.lt_of_le_of_lt (Nat.sub_le _ _) t.isLt)).2) := by
  rw [outsAt0_C m c t (by omega) h1]
  frame_out
  rw [show View.read (Elt Ideal) (View.whole cc0_scratch0) _ = _ from Memref.IsWhole.read_unread (Memref.isWhole_whole cc0_scratch0) _]
  rfl

/-- A row of the activations after the input norm: the hidden vector of the layer. -/
def hid (X : Vec Ideal S16384x2048 .f32) (G : Vec Ideal S1x2048 .f32) (r : Fin 16384) (d : Fin 2048) : EReal :=
  X (ix2 r d) * rs (fun e => X (ix2 r e)) * G (ix2 0 d)

/-- Hidden unit `k`'s share of entry `(r, e)` of the output: half of the gated product times the down weight. -/
def share (X : Vec Ideal S16384x2048 .f32) (G : Vec Ideal S1x2048 .f32) (WG WU : Vec Ideal S2x2048x5632 .f32)
    (WD : Vec Ideal S2x5632x2048 .f32) (r : Fin 16384) (e : Fin 2048) (k : Fin 5632) : EReal :=
  unit (hid X G r) (fun d => WG (ix3 1 d k)) (fun d => WU (ix3 1 d k)) * half * WD (ix3 1 k e)

/-- Where each window's block lies at each point. -/
theorem idx : ∀ t : Fin cfg0.N, win0_0.index t = ![t.val / 22, 0] ∧ win0_1.index t = ![0, 0]
    ∧ win0_2.index t = ![1, 0, t.val % 22] ∧ win0_3.index t = ![1, 0, t.val % 22] ∧ win0_4.index t = ![1, t.val % 22, 0]
    ∧ win0_5.index t = ![0, 0] ∧ win0_6.index t = ![t.val / 22, 0] :=
  (by decide +kernel : ∀ t : Fin grid0.N, _)

/-- Device `c`'s arguments as arrays. -/
abbrev aX (c : Dev nD) : Vec Ideal S16384x2048 .f32 := m ((c : Thread nD τ).loc main_arg0)
abbrev aG (c : Dev nD) : Vec Ideal S1x2048 .f32 := m ((c : Thread nD τ).loc main_arg1)
abbrev aWG (c : Dev nD) : Vec Ideal S2x2048x5632 .f32 := m ((c : Thread nD τ).loc main_arg2)
abbrev aWU (c : Dev nD) : Vec Ideal S2x2048x5632 .f32 := m ((c : Thread nD τ).loc main_arg3)
abbrev aWD (c : Dev nD) : Vec Ideal S2x5632x2048 .f32 := m ((c : Thread nD τ).loc main_arg4)
abbrev aF (c : Dev nD) : Vec Ideal S1x2048 .f32 := m ((c : Thread nD τ).loc main_arg5)

theorem lt_N (t : Fin cfg0.N) : t.val < 352 := lt_of_lt_of_eq t.isLt N_0

/-- Row `r` of the block of point `t`, as a row of the array. -/
def row (t : Fin cfg0.N) (r : Fin 1024) : Fin 16384 := ⟨t.val / 22 * 1024 + r.val, by have := lt_N t; omega⟩

/-- Unit `k` of the slab of point `t`, as a unit of the layer. -/
def unitOf (t : Fin cfg0.N) (k : Fin 256) : Fin 5632 := ⟨t.val % 22 * 256 + k.val, by omega⟩

theorem blk0 (c : Dev nD) (t : Fin cfg0.N) (r : Fin 1024) (d : Fin 2048) :
    (iblk m c 0 t : Vec Ideal S1024x2048 .f32) (ix2 r d) = aX m c (ix2 (row t r) d) := by
  unfold row
  blk_point [iblk, V, idx t]

theorem blk1 (c : Dev nD) (t : Fin cfg0.N) (d : Fin 2048) :
    (iblk m c 1 t : Vec Ideal S1x2048 .f32) (ix2 0 d) = aG m c (ix2 0 d) := by
  blk_point [iblk, V, idx t]

theorem blk2 (c : Dev nD) (t : Fin cfg0.N) (d : Fin 2048) (k : Fin 256) :
    (iblk m c 2 t : Vec Ideal S1x2048x256 .f32) (ix3 0 d k) = aWG m c (ix3 1 d (unitOf t k)) := by
  unfold unitOf
  blk_point [iblk, V, idx t]

theorem blk3 (c : Dev nD) (t : Fin cfg0.N) (d : Fin 2048) (k : Fin 256) :
    (iblk m c 3 t : Vec Ideal S1x2048x256 .f32) (ix3 0 d k) = aWU m c (ix3 1 d (unitOf t k)) := by
  unfold unitOf
  blk_point [iblk, V, idx t]

theorem blk4 (c : Dev nD) (t : Fin cfg0.N) (k : Fin 256) (e : Fin 2048) :
    (iblk m c 4 t : Vec Ideal S1x256x2048 .f32) (ix3 0 k e) = aWD m c (ix3 1 (unitOf t k) e) := by
  unfold unitOf
  blk_point [iblk, V, idx t]

theorem blk5 (c : Dev nD) (t : Fin cfg0.N) (d : Fin 2048) :
    (iblk m c 5 t : Vec Ideal S1x2048 .f32) (ix2 0 d) = aF m c (ix2 0 d) := by
  blk_point [iblk, V, idx t]

/-- The share of slab `s` of 256 hidden units in entry `(r, e)`; no slab from 22 on. -/
def slab (c : Dev nD) (r : Fin 16384) (e : Fin 2048) (s : ℕ) : EReal :=
  if h : s < 22 then ∑ k : Fin 256, share (aX m c) (aG m c) (aWG m c) (aWU m c) (aWD m c) r e ⟨s * 256 + k.val, by omega⟩ else 0

/-- The normalized block of a run is the hidden vectors of its rows. -/
theorem first_h (c : Dev nD) (t : Fin cfg0.N) (r : Fin 1024) (d : Fin 2048) :
    k0_pay2 (F := Ideal) (iblk m c 0 t) (iblk m c 1 t) (ix2 r d) = hid (aX m c) (aG m c) (row t r) d := by
  rw [pay2]
  simp only [blk0, blk1]
  rfl

/-- A point's step over a block of hidden vectors adds its slab's share. -/
theorem step (c : Dev nD) (t : Fin cfg0.N) (h : Vec Ideal S1024x2048 .bf16) (acc : Vec Ideal S1024x2048 .f32) (r : Fin 1024)
    (hh : ∀ d, h (ix2 r d) = hid (aX m c) (aG m c) (row t r) d) (e : Fin 2048) :
    k0_pay3 (F := Ideal) h (iblk m c 2 t) (iblk m c 3 t) acc (iblk m c 4 t) (ix2 r e)
      = acc (ix2 r e) + slab m c (row t r) e (t.val % 22) := by
  rw [pay3]
  simp only [blk2, blk3, blk4, hh]
  unfold slab
  rw [dif_pos (Nat.mod_lt _ (by decide))]
  rfl

theorem row_pred (t : Fin cfg0.N) (h : ¬t.val % 22 = 0) (r : Fin 1024) :
    row ⟨t.val - 1, Nat.lt_of_le_of_lt (Nat.sub_le _ _) t.isLt⟩ r = row t r := by
  unfold row
  apply Fin.ext
  dsimp only
  omega

/-- Before a run's last point, the carried scratch holds the rows' hidden vectors and the block the activations plus the
    shares of the slabs so far. -/
theorem fold (c : Dev nD) (n : ℕ) : ∀ (hn : n < cfg0.N) (_ : ¬n % 22 = 21) (r : Fin 1024),
    (∀ d, (outsAt0 m c n hn).2 (ix2 r d) = hid (aX m c) (aG m c) (row ⟨n, hn⟩ r) d)
    ∧ ∀ e, (outsAt0 m c n hn).1 (ix2 r e) = aX m c (ix2 (row ⟨n, hn⟩ r) e)
        + ∑ s ∈ Finset.range (n % 22 + 1), slab m c (row ⟨n, hn⟩ r) e s := by
  induction n with
  | zero =>
    intro hn h1 r
    rw [at_first m c ⟨0, hn⟩ rfl]
    refine ⟨fun d => first_h m c _ r d, fun e => ?_⟩
    refine (step m c ⟨0, hn⟩ _ _ r (fun d => first_h m c _ r d) e).trans ?_
    rw [blk0]
    simp
  | succ n ih =>
    intro hn h1 r
    by_cases h0 : (n + 1) % 22 = 0
    · rw [at_first m c ⟨n + 1, hn⟩ h0]
      refine ⟨fun d => first_h m c _ r d, fun e => ?_⟩
      refine (step m c ⟨n + 1, hn⟩ _ _ r (fun d => first_h m c _ r d) e).trans ?_
      rw [blk0, h0, Finset.sum_range_one]
    · obtain ⟨i1, i2⟩ := ih (Nat.lt_of_succ_lt hn) (by omega) r
      have hr : row ⟨n, Nat.lt_of_succ_lt hn⟩ r = row ⟨n + 1, hn⟩ r := row_pred ⟨n + 1, hn⟩ h0 r
      rw [hr] at i1 i2
      rw [at_mid m c ⟨n + 1, hn⟩ h0 h1]
      refine ⟨i1, fun e => ?_⟩
      refine (step m c ⟨n + 1, hn⟩ _ _ r i1 e).trans ?_
      rw [show (n + 1) % 22 + 1 = (n % 22 + 1) + 1 from by omega, Finset.sum_range_succ, ← add_assoc]
      refine congrArg₂ (· + ·) (i2 e) ?_
      rw [show (⟨n + 1, hn⟩ : Fin cfg0.N).val % 22 = n % 22 + 1 from by show (n + 1) % 22 = _; omega]

/-- The residual stream after the layer's half step, before the final norm. -/
def mid (X : Vec Ideal S16384x2048 .f32) (G : Vec Ideal S1x2048 .f32) (WG WU : Vec Ideal S2x2048x5632 .f32)
    (WD : Vec Ideal S2x5632x2048 .f32) (r : Fin 16384) (e : Fin 2048) : EReal :=
  X (ix2 r e) + ∑ k : Fin 5632, share X G WG WU WD r e k

/-- The 22 slabs together are all hidden units. -/
theorem slabs (c : Dev nD) (r : Fin 16384) (e : Fin 2048) :
    ∑ s ∈ Finset.range 22, slab m c r e s = ∑ k : Fin 5632, share (aX m c) (aG m c) (aWG m c) (aWU m c) (aWD m c) r e k := by
  rw [Finset.sum_range]
  have e1 : ∀ s : Fin 22, slab m c r e s.val
      = ∑ k : Fin 256, share (aX m c) (aG m c) (aWG m c) (aWU m c) (aWD m c) r e ⟨s.val * 256 + k.val, by omega⟩ := fun s => dif_pos s.isLt
  simp only [e1]
  exact Fin.sum_mul_add_congr fun s k hl => rfl

/-- What a run's last point leaves: the final norm of the half step's rows. -/
theorem last (c : Dev nD) (t : Fin cfg0.N) (h1 : t.val % 22 = 21) (r : Fin 1024) (e : Fin 2048) :
    (outsAt0 m c t.val t.isLt).1 (ix2 r e)
      = mid (aX m c) (aG m c) (aWG m c) (aWU m c) (aWD m c) (row t r) e
        * rs (mid (aX m c) (aG m c) (aWG m c) (aWU m c) (aWD m c) (row t r)) * aF m c (ix2 0 e) := by
  have h0 : ¬t.val % 22 = 0 := by omega
  obtain ⟨i1, i2⟩ := fold m c (t.val - 1) (Nat.lt_of_le_of_lt (Nat.sub_le _ _) t.isLt) (by omega) r
  rw [row_pred t h0 r] at i1 i2
  rw [at_last m c t h1]
  dsimp only
  rw [pay1, blk5]
  have hs : ∀ d, k0_pay3 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) (ix2 r d)
      = mid (aX m c) (aG m c) (aWG m c) (aWU m c) (aWD m c) (row t r) d := fun d => by
    rw [step m c t _ _ r i1 d, i2 d, add_assoc, show (t.val - 1) % 22 + 1 = 21 from by omega, h1, ← Finset.sum_range_succ, slabs]
    rfl
  simp only [hs]

end Cert.Ffn
-- ==== Proof.FfnValue.lean ====
module

public import proofs.«01_k».proof.Defs
public import proofs.«01_k».proof.Proof.FfnFold
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem
open Cert.Kernel2Ideal Cert.Kernel2Ideal.Gen

/-- The function both programs compute: the rows after the half step, scaled by the final norm. -/
def G (X : Vec Ideal S16384x2048 .f32) (g : Vec Ideal S1x2048 .f32) (WG WU : Vec Ideal S2x2048x5632 .f32)
    (WD : Vec Ideal S2x5632x2048 .f32) (f : Vec Ideal S1x2048 .f32) : Vec Ideal S16384x2048 .f32 := fun i =>
  mid X g WG WU WD (i 0) (i 1) * rs (mid X g WG WU WD (i 0)) * f (ix2 0 (i 1))

/-- The kernel's output array. -/
theorem out_kernel (m : (ℓ : Loc nD τ sig) → Buf (Elt Ideal) ℓ) (c : Dev nD) :
    (dats m 0 c).arrAt 6 cfg0.N = G (aX m c) (aG m c) (aWG m c) (aWU m c) (aWD m c) (aF m c) := by
  refine (dats m 0 c).arrAt_eq_of_covers 6 _ (by decide +kernel) fun t hf y => ?_
  blk_simp
  rw [after0_6]
  have h := last m c t ((flush0_6 t).mp hf) (y 0) (y 1)
  have hy : (ix2 (y 0) (y 1) : S1024x2048.Idx) = y := by blk_ext
  rw [hy] at h
  refine h.trans ?_
  have hr : (win0_6.blk t).view.emb y 0 = row t (y 0) := by
    apply Fin.ext
    blk_simp [row, idx t]
  have hc : (win0_6.blk t).view.emb y 1 = y 1 := by
    apply Fin.ext
    blk_simp [idx t]
  unfold G
  rw [hr, hc]

/-- The pattern of one half. -/
theorem half_eq : half = ((1 / 2 : ℝ) : EReal) := by
  simp [half, Ideal.ofBits, Ideal.ieee, -EReal.coe_mul]
  norm_num

/-- A half taken into a sum of extended reals. -/
theorem half_sum {n : ℕ} (f : Fin n → EReal) : half * ∑ k, f k = ∑ k, half * f k := by
  have h0 : (0 : EReal) ≤ half := by rw [half_eq]; exact_mod_cast (by norm_num : (0 : ℝ) ≤ 1 / 2)
  have h1 : half ≠ ⊤ := by rw [half_eq]; exact EReal.coe_ne_top _
  induction (Finset.univ : Finset (Fin n)) using Finset.induction_on with
  | empty => simp
  | insert a s ha ih => rw [Finset.sum_insert ha, Finset.sum_insert ha, EReal.left_distrib_of_nonneg_of_ne_top h0 h1, ih]

/-- The reference's result. -/
theorem out_reference (m : (ℓ : Loc Cert.Reference2Ideal.nD Cert.Reference2Ideal.τ Cert.Reference2Ideal.sig) → Buf (Elt Ideal) ℓ) (c : Dev Cert.Reference2Ideal.nD) :
    Cert.Reference2Ideal.Value.res_main_v37 (F := Ideal) m c
      = G (m (c.tc.loc Reference2Ideal.main_arg0)) (m (c.tc.loc Reference2Ideal.main_arg1)) (m (c.tc.loc Reference2Ideal.main_arg2))
        (m (c.tc.loc Reference2Ideal.main_arg3)) (m (c.tc.loc Reference2Ideal.main_arg4)) (m (c.tc.loc Reference2Ideal.main_arg5)) := by
  funext j
  idx_vars j
  have e : ∀ (X : Vec Ideal S16384x2048 .f32) g WG WU WD r e, mid X g WG WU WD r e = X (ix2 r e) + half * ∑ k : Fin 5632,
      ((∑ d, hid X g r d * WG (ix3 1 d k)) * Ideal.div 1 (1 + Ideal.exp (- ∑ d, hid X g r d * WG (ix3 1 d k))) * ∑ d, hid X g r d * WU (ix3 1 d k))
        * WD (ix3 1 k e) := by
    intro X g WG WU WD r e
    rw [half_sum]
    refine congrArg _ (Finset.sum_congr rfl fun k _ => ?_)
    unfold share unit
    rw [zero_sub, mul_comm _ half, mul_assoc]
  show _ = mid _ _ _ _ _ j0 j1 * rs (mid _ _ _ _ _ j0) * _
  rw [show mid _ _ _ _ _ j0 = fun e => mid _ _ _ _ _ j0 e from rfl]
  simp only [e]
  unfold hid rs
  pointwise [Cert.Reference2Ideal.Value.res_main_v37]

/-- The kernel's run: the result array at `G` of the arguments, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = G (aX m c) (aG m c) (aWG m c) (aWU m c) (aWD m c) (aF m c) :=
  (θ_run defs _ _).mono (fun r h c => (Value.post6 m r h c).trans (out_kernel m c)) (run_main m ρ)

end Cert.Ffn
-- ==== Proof.FfnClaim.lean ====
module

public import proofs.«01_k».proof.Defs
public import proofs.«01_k».proof.Proof.FfnValue
public import proofs.«01_k».proof.Proof.Gen.Kernel2.Frame
public import Idealize.ShloMosaic.Lib.Quiescent

@[expose] public section

noncomputable section

namespace Cert.Ffn

open Idealize.ShloMosaic Idealize.ShloMosaic.TcCoe Idealize.SL.Sem

/-- The fused feed-forward kernel and the plainly written half step leave the same result. -/
theorem equal : Cert.algebraic_Kernel2Ideal_Reference2Ideal := by
  pair_intro
  · run_from Cert.Kernel2Ideal.Gen.run_main m g
  · run_from Cert.Reference2Ideal.Value.run m' g'
    obtain ⟨h0, h1, h2, h3, h4, h5⟩ := hagree c
    refine Eq.trans ?_ (out_kernel m c).symm
    refine (out_reference m' c).trans ?_
    show G _ _ _ _ _ _ = G _ _ _ _ _ _
    rw [h0, h1, h2, h3, h4, h5]

/-- The printed program runs and leaves its arguments. -/
theorem frame_kernel : Cert.quiescent_Kernel2 := fun m ρ _ => Cert.Kernel2.Gen.frame m ρ

/-- So does its idealization. -/
theorem frame_ideal : Cert.quiescent_Kernel2Ideal := fun m ρ _ => Cert.Kernel2Ideal.Gen.frame m ρ

/-- So does the reference. -/
theorem frame_reference : Cert.quiescent_Reference2Ideal := fun m ρ _ =>
  (θ_run _ _ _).mono (fun _ h => ⟨fun c => (h c).2, sem_eq_zero_of_no_sems rfl _⟩) (Cert.Reference2Ideal.Value.run m ρ)

/-- Nothing was rewritten. -/
theorem same : Cert.preserves_Kernel2_Kernel2Ideal := trivial

end Cert.Ffn
-- ==== Proof.HalfFold.lean ====
module

public import proofs.«01_k».proof.Defs
public import proofs.«01_k».proof.Proof.Gen.Kernel3Ideal.Value
public import proofs.«01_k».proof.Proof.FfnPay
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Half

open Idealize.ShloMosaic Idealize.ShloMosaic.TcCoe Idealize.SL.Sem
open Cert.Kernel3Ideal Cert.Kernel3Ideal.Gen
open Cert.Ffn (rs unit half)

/-- The normalized block a run of points starts with, at an index. -/
theorem pay1 (x : Vec Ideal S1024x2048 .f32) (g : Vec Ideal S1x2048 .f32) (r : Fin 1024) (d : Fin 2048) :
    k0_pay1 (F := Ideal) x g (ix2 r d) = x (ix2 r d) * rs (fun e => x (ix2 r e)) * g (ix2 0 d) := by
  pointwise [k0_pay1]
  rfl

/-- One point's step: what the block held before plus the part of 256 hidden units. -/
theorem pay2 (h : Vec Ideal S1024x2048 .bf16) (wg wu : Vec Ideal S1x2048x256 .f32)
    (acc : Vec Ideal S1024x2048 .f32) (wd : Vec Ideal S1x256x2048 .f32) (r : Fin 1024) (e : Fin 2048) :
    k0_pay2 (F := Ideal) h wg wu acc wd (ix2 r e)
      = acc (ix2 r e) + ∑ k : Fin 256, unit (fun d => h (ix2 r d)) (fun d => wg (ix3 0 d k)) (fun d => wu (ix3 0 d k))
          * half * wd (ix3 0 k e) := by
  pointwise [k0_pay2]
  rfl

variable (m : (ℓ : Loc nD τ sig) → Buf (Elt Ideal) ℓ)

/-- A run's first point: the norm of the activations' block, and the block plus the first part. -/
theorem at_first (c : Dev nD) (t : Fin cfg0.N) (h0 : t.val % 22 = 0) :
    outsAt0 m c t.val t.isLt = (k0_pay2 (k0_pay1 (iblk m c 0 t) (iblk m c 1 t)) (iblk m c 2 t) (iblk m c 3 t) (iblk m c 0 t) (iblk m c 4 t),
      k0_pay1 (iblk m c 0 t) (iblk m c 1 t)) := by
  rw [outsAt0_A m c t h0]
  frame_out

/-- A later point of a run adds its part to what the point before left. -/
theorem at_mid (c : Dev nD) (t : Fin cfg0.N) (h0 : ¬t.val % 22 = 0) :
    outsAt0 m c t.val t.isLt = (k0_pay2 (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t),
      (outsAt0 m c (t.val - 1) (Nat.lt_of_le_of_lt (Nat.sub_le _ _) t.isLt)).2) := by
  rw [outsAt0_B m c t h0]
  frame_out
  rw [show View.read (Elt Ideal) (View.whole cc0_scratch0) _ = _ from Memref.IsWhole.read_unread (Memref.isWhole_whole cc0_scratch0) _]
  rfl

/-- A row of the activations after the input norm: the hidden vector of the layer. -/
def hid (X : Vec Ideal S16384x2048 .f32) (G : Vec Ideal S1x2048 .f32) (r : Fin 16384) (d : Fin 2048) : EReal :=
  X (ix2 r d) * rs (fun e => X (ix2 r e)) * G (ix2 0 d)

/-- Hidden unit `k`'s share of entry `(r, e)` of the output: half of the gated product times the down weight. -/
def share (X : Vec Ideal S16384x2048 .f32) (G : Vec Ideal S1x2048 .f32) (WG WU : Vec Ideal S2x2048x5632 .f32)
    (WD : Vec Ideal S2x5632x2048 .f32) (r : Fin 16384) (e : Fin 2048) (k : Fin 5632) : EReal :=
  unit (hid X G r) (fun d => WG (ix3 0 d k)) (fun d => WU (ix3 0 d k)) * half * WD (ix3 0 k e)

/-- Where each window's block lies at each point. -/
theorem idx : ∀ t : Fin cfg0.N, win0_0.index t = ![t.val / 22, 0] ∧ win0_1.index t = ![0, 0]
    ∧ win0_2.index t = ![0, 0, t.val % 22] ∧ win0_3.index t = ![0, 0, t.val % 22] ∧ win0_4.index t = ![0, t.val % 22, 0]
    ∧ win0_5.index t = ![0, 0] ∧ win0_6.index t = ![t.val / 22, 0] :=
  (by decide +kernel : ∀ t : Fin grid0.N, _)

/-- Device `c`'s arguments as arrays. -/
abbrev aX (c : Dev nD) : Vec Ideal S16384x2048 .f32 := m ((c : Thread nD τ).loc main_arg0)
abbrev aG (c : Dev nD) : Vec Ideal S1x2048 .f32 := m ((c : Thread nD τ).loc main_arg1)
abbrev aWG (c : Dev nD) : Vec Ideal S2x2048x5632 .f32 := m ((c : Thread nD τ).loc main_arg2)
abbrev aWU (c : Dev nD) : Vec Ideal S2x2048x5632 .f32 := m ((c : Thread nD τ).loc main_arg3)
abbrev aWD (c : Dev nD) : Vec Ideal S2x5632x2048 .f32 := m ((c : Thread nD τ).loc main_arg4)

theorem lt_N (t : Fin cfg0.N) : t.val < 352 := lt_of_lt_of_eq t.isLt N_0

/-- Row `r` of the block of point `t`, as a row of the array. -/
def row (t : Fin cfg0.N) (r : Fin 1024) : Fin 16384 := ⟨t.val / 22 * 1024 + r.val, by have := lt_N t; omega⟩

/-- Unit `k` of the slab of point `t`, as a unit of the layer. -/
def unitOf (t : Fin cfg0.N) (k : Fin 256) : Fin 5632 := ⟨t.val % 22 * 256 + k.val, by omega⟩

theorem blk0 (c : Dev nD) (t : Fin cfg0.N) (r : Fin 1024) (d : Fin 2048) :
    (iblk m c 0 t : Vec Ideal S1024x2048 .f32) (ix2 r d) = aX m c (ix2 (row t r) d) := by
  unfold row
  blk_point [iblk, V, idx t]

theorem blk1 (c : Dev nD) (t : Fin cfg0.N) (d : Fin 2048) :
    (iblk m c 1 t : Vec Ideal S1x2048 .f32) (ix2 0 d) = aG m c (ix2 0 d) := by
  blk_point [iblk, V, idx t]

theorem blk2 (c : Dev nD) (t : Fin cfg0.N) (d : Fin 2048) (k : Fin 256) :
    (iblk m c 2 t : Vec Ideal S1x2048x256 .f32) (ix3 0 d k) = aWG m c (ix3 0 d (unitOf t k)) := by
  unfold unitOf
  blk_point [iblk, V, idx t]

theorem blk3 (c : Dev nD) (t : Fin cfg0.N) (d : Fin 2048) (k : Fin 256) :
    (iblk m c 3 t : Vec Ideal S1x2048x256 .f32) (ix3 0 d k) = aWU m c (ix3 0 d (unitOf t k)) := by
  unfold unitOf
  blk_point [iblk, V, idx t]

theorem blk4 (c : Dev nD) (t : Fin cfg0.N) (k : Fin 256) (e : Fin 2048) :
    (iblk m c 4 t : Vec Ideal S1x256x2048 .f32) (ix3 0 k e) = aWD m c (ix3 0 (unitOf t k) e) := by
  unfold unitOf
  blk_point [iblk, V, idx t]

/-- The share of slab `s` of 256 hidden units in entry `(r, e)`; no slab from 22 on. -/
def slab (c : Dev nD) (r : Fin 16384) (e : Fin 2048) (s : ℕ) : EReal :=
  if h : s < 22 then ∑ k : Fin 256, share (aX m c) (aG m c) (aWG m c) (aWU m c) (aWD m c) r e ⟨s * 256 + k.val, by omega⟩ else 0

/-- The normalized block of a run is the hidden vectors of its rows. -/
theorem first_h (c : Dev nD) (t : Fin cfg0.N) (r : Fin 1024) (d : Fin 2048) :
    k0_pay1 (F := Ideal) (iblk m c 0 t) (iblk m c 1 t) (ix2 r d) = hid (aX m c) (aG m c) (row t r) d := by
  rw [pay1]
  simp only [blk0, blk1]
  rfl

/-- A point's step over a block of hidden vectors adds its slab's share. -/
theorem step (c : Dev nD) (t : Fin cfg0.N) (h : Vec Ideal S1024x2048 .bf16) (acc : Vec Ideal S1024x2048 .f32) (r : Fin 1024)
    (hh : ∀ d, h (ix2 r d) = hid (aX m c) (aG m c) (row t r) d) (e : Fin 2048) :
    k0_pay2 (F := Ideal) h (iblk m c 2 t) (iblk m c 3 t) acc (iblk m c 4 t) (ix2 r e)
      = acc (ix2 r e) + slab m c (row t r) e (t.val % 22) := by
  rw [pay2]
  simp only [blk2, blk3, blk4, hh]
  unfold slab
  rw [dif_pos (Nat.mod_lt _ (by decide))]
  rfl

theorem row_pred (t : Fin cfg0.N) (h : ¬t.val % 22 = 0) (r : Fin 1024) :
    row ⟨t.val - 1, Nat.lt_of_le_of_lt (Nat.sub_le _ _) t.isLt⟩ r = row t r := by
  unfold row
  apply Fin.ext
  dsimp only
  omega

/-- At every point of a run, the carried scratch holds the rows' hidden vectors and the block the activations plus the
    shares of the slabs so far. -/
theorem fold (c : Dev nD) (n : ℕ) : ∀ (hn : n < cfg0.N) (r : Fin 1024),
    (∀ d, (outsAt0 m c n hn).2 (ix2 r d) = hid (aX m c) (aG m c) (row ⟨n, hn⟩ r) d)
    ∧ ∀ e, (outsAt0 m c n hn).1 (ix2 r e) = aX m c (ix2 (row ⟨n, hn⟩ r) e)
        + ∑ s ∈ Finset.range (n % 22 + 1), slab m c (row ⟨n, hn⟩ r) e s := by
  induction n with
  | zero =>
    intro hn r
    rw [at_first m c ⟨0, hn⟩ rfl]
    refine ⟨fun d => first_h m c _ r d, fun e => ?_⟩
    refine (step m c ⟨0, hn⟩ _ _ r (fun d => first_h m c _ r d) e).trans ?_
    rw [blk0]
    simp
  | succ n ih =>
    intro hn r
    by_cases h0 : (n + 1) % 22 = 0
    · rw [at_first m c ⟨n + 1, hn⟩ h0]
      refine ⟨fun d => first_h m c _ r d, fun e => ?_⟩
      refine (step m c ⟨n + 1, hn⟩ _ _ r (fun d => first_h m c _ r d) e).trans ?_
      rw [blk0, h0, Finset.sum_range_one]
    · obtain ⟨i1, i2⟩ := ih (Nat.lt_of_succ_lt hn) r
      have hr : row ⟨n, Nat.lt_of_succ_lt hn⟩ r = row ⟨n + 1, hn⟩ r := row_pred ⟨n + 1, hn⟩ h0 r
      rw [hr] at i1 i2
      rw [at_mid m c ⟨n + 1, hn⟩ h0]
      refine ⟨i1, fun e => ?_⟩
      refine (step m c ⟨n + 1, hn⟩ _ _ r i1 e).trans ?_
      rw [show (n + 1) % 22 + 1 = (n % 22 + 1) + 1 from by omega, Finset.sum_range_succ, ← add_assoc]
      refine congrArg₂ (· + ·) (i2 e) ?_
      rw [show (⟨n + 1, hn⟩ : Fin cfg0.N).val % 22 = n % 22 + 1 from by show (n + 1) % 22 = _; omega]

/-- The residual stream after the half step. -/
def mid (X : Vec Ideal S16384x2048 .f32) (G : Vec Ideal S1x2048 .f32) (WG WU : Vec Ideal S2x2048x5632 .f32)
    (WD : Vec Ideal S2x5632x2048 .f32) (r : Fin 16384) (e : Fin 2048) : EReal :=
  X (ix2 r e) + ∑ k : Fin 5632, share X G WG WU WD r e k

/-- The 22 slabs together are all hidden units. -/
theorem slabs (c : Dev nD) (r : Fin 16384) (e : Fin 2048) :
    ∑ s ∈ Finset.range 22, slab m c r e s = ∑ k : Fin 5632, share (aX m c) (aG m c) (aWG m c) (aWU m c) (aWD m c) r e k := by
  rw [Finset.sum_range]
  have e1 : ∀ s : Fin 22, slab m c r e s.val
      = ∑ k : Fin 256, share (aX m c) (aG m c) (aWG m c) (aWU m c) (aWD m c) r e ⟨s.val * 256 + k.val, by omega⟩ := fun s => dif_pos s.isLt
  simp only [e1]
  exact Fin.sum_mul_add_congr fun s k hl => rfl

/-- What a run's last point leaves: the half step's rows. -/
theorem last (c : Dev nD) (t : Fin cfg0.N) (h1 : t.val % 22 = 21) (r : Fin 1024) (e : Fin 2048) :
    (outsAt0 m c t.val t.isLt).1 (ix2 r e)
      = mid (aX m c) (aG m c) (aWG m c) (aWU m c) (aWD m c) (row t r) e := by
  rw [(fold m c t.val t.isLt r).2 e, h1, slabs]
  rfl

end Cert.Half
-- ==== Proof.HalfValue.lean ====
module

public import proofs.«01_k».proof.Defs
public import proofs.«01_k».proof.Proof.FfnValue
public import proofs.«01_k».proof.Proof.HalfFold
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Half

open Idealize.ShloMosaic Idealize.ShloMosaic.TcCoe Idealize.SL.Sem
section

open Cert.Reference3Ideal Cert.Reference3Ideal.Gen Cert.Reference3Ideal.Facts

/-- The reference's operations, composed. -/
def ref (X : FVec Ideal S16384x2048 .f32) (g : FVec Ideal S1x2048 .f32) (WG WU : FVec Ideal S2x2048x5632 .f32)
    (WD : FVec Ideal S2x5632x2048 .f32) : FVec Ideal S16384x2048 .f32 :=
  addf (F := Ideal) X
    (mulf (broadcastInDim S16384x2048 ![] bcast_S_S16384x2048 (constant S_ .f32 0x3F000000#32)) (Host.dotGeneral dot_S16384x5632_S5632x2048_S16384x2048_1_0_0_1_n_n none
    (mulf (mulf (Host.dotGeneral dot_S16384x2048_S2048x5632_S16384x5632_1_0_0_1_n_n none
    (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)) (shapeCast _ (extractStridedSlice S1x2048x5632 ![0, 0, 0] WG slices_S2x2048x5632_S1x2048x5632_0_0_0) shapeCasts_S1x2048x5632_S2048x5632)) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (Host.dotGeneral dot_S16384x2048_S2048x5632_S16384x5632_1_0_0_1_n_n none
    (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)) (shapeCast _ (extractStridedSlice S1x2048x5632 ![0, 0, 0] WG slices_S2x2048x5632_S1x2048x5632_0_0_0) shapeCasts_S1x2048x5632_S2048x5632))))))) (Host.dotGeneral dot_S16384x2048_S2048x5632_S16384x5632_1_0_0_1_n_n none
    (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)) (shapeCast _ (extractStridedSlice S1x2048x5632 ![0, 0, 0] WU slices_S2x2048x5632_S1x2048x5632_0_0_0) shapeCasts_S1x2048x5632_S2048x5632))) (shapeCast _ (extractStridedSlice S1x5632x2048 ![0, 0, 0] WD slices_S2x5632x2048_S1x5632x2048_0_0_0) shapeCasts_S1x5632x2048_S5632x2048)))

end

open Cert.Kernel3Ideal Cert.Kernel3Ideal.Gen
open Cert.Ffn (rs unit half half_eq half_sum)

/-- The function both programs compute: the rows after the half step. -/
def G (X : Vec Ideal S16384x2048 .f32) (g : Vec Ideal S1x2048 .f32) (WG WU : Vec Ideal S2x2048x5632 .f32)
    (WD : Vec Ideal S2x5632x2048 .f32) : Vec Ideal S16384x2048 .f32 := fun i =>
  mid X g WG WU WD (i 0) (i 1)

/-- The kernel's output array. -/
theorem out_kernel (m : (ℓ : Loc nD τ sig) → Buf (Elt Ideal) ℓ) (c : Dev nD) :
    (dats m 0 c).arrAt 6 cfg0.N = G (aX m c) (aG m c) (aWG m c) (aWU m c) (aWD m c) := by
  refine (dats m 0 c).arrAt_eq_of_covers 6 _ (by decide +kernel) fun t hf y => ?_
  blk_simp
  rw [after0_6]
  have h := last m c t ((flush0_6 t).mp hf) (y 0) (y 1)
  have hy : (ix2 (y 0) (y 1) : S1024x2048.Idx) = y := by blk_ext
  rw [hy] at h
  refine h.trans ?_
  have hr : (win0_6.blk t).view.emb y 0 = row t (y 0) := by
    apply Fin.ext
    blk_simp [row, idx t]
  have hc : (win0_6.blk t).view.emb y 1 = y 1 := by
    apply Fin.ext
    blk_simp [idx t]
  unfold G
  rw [hr, hc]

/-- The reference's result. -/
theorem out_reference (X : Vec Ideal S16384x2048 .f32) (g : Vec Ideal S1x2048 .f32) (WG WU : Vec Ideal S2x2048x5632 .f32)
    (WD : Vec Ideal S2x5632x2048 .f32) : ref X g WG WU WD = G X g WG WU WD := by
  funext j
  idx_vars j
  have e : ∀ (X : Vec Ideal S16384x2048 .f32) g WG WU WD r e, mid X g WG WU WD r e = X (ix2 r e) + half * ∑ k : Fin 5632,
      ((∑ d, hid X g r d * WG (ix3 0 d k)) * Ideal.div 1 (1 + Ideal.exp (- ∑ d, hid X g r d * WG (ix3 0 d k))) * ∑ d, hid X g r d * WU (ix3 0 d k))
        * WD (ix3 0 k e) := by
    intro X g WG WU WD r e
    rw [half_sum]
    refine congrArg _ (Finset.sum_congr rfl fun k _ => ?_)
    unfold share unit
    rw [zero_sub, mul_comm _ half, mul_assoc]
  show _ = mid _ _ _ _ _ j0 j1
  simp only [e]
  unfold hid rs
  pointwise [ref]

/-- The kernel's run: the result array at `G` of the arguments, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = G (aX m c) (aG m c) (aWG m c) (aWU m c) (aWD m c) :=
  (θ_run defs _ _).mono (fun r h c => (Value.post6 m r h c).trans (out_kernel m c)) (run_main m ρ)

end Cert.Half
-- ==== Proof.HalfClaim.lean ====
module

public import proofs.«01_k».proof.Defs
public import proofs.«01_k».proof.Proof.HalfValue
public import proofs.«01_k».proof.Proof.Gen.Kernel3.Frame
public import Idealize.ShloMosaic.Lib.Quiescent

@[expose] public section

noncomputable section

namespace Cert.Half

open Idealize.ShloMosaic Idealize.ShloMosaic.TcCoe Idealize.SL.Sem

/-- The fused feed-forward kernel without the final norm and the plainly written half step leave the same result. -/
theorem equal : Cert.algebraic_Kernel3Ideal_Reference3Ideal := by
  pair_intro
  · run_from Cert.Kernel3Ideal.Gen.run_main m g
  · run_from Cert.Reference3Ideal.Value.run m' g'
    obtain ⟨h0, h1, h2, h3, h4, -⟩ := hagree c
    refine Eq.trans ?_ (out_kernel m c).symm
    refine (out_reference _ _ _ _ _).trans ?_
    rfl

/-- The printed program runs and leaves its arguments. -/
theorem frame_kernel : Cert.quiescent_Kernel3 := fun m ρ _ => Cert.Kernel3.Gen.frame m ρ

/-- So does its idealization. -/
theorem frame_ideal : Cert.quiescent_Kernel3Ideal := fun m ρ _ => Cert.Kernel3Ideal.Gen.frame m ρ

/-- So does the reference. -/
theorem frame_reference : Cert.quiescent_Reference3Ideal := fun m ρ _ =>
  (θ_run _ _ _).mono (fun _ h => ⟨fun c => (h c).2, sem_eq_zero_of_no_sems rfl _⟩) (Cert.Reference3Ideal.Value.run m ρ)

/-- Nothing was rewritten. -/
theorem same : Cert.preserves_Kernel3_Kernel3Ideal := trivial

end Cert.Half
-- ==== Proof.InprojBody.lean ====
/- One grid point of the input projection, run once: what it leaves in its two output blocks and in the buffer of normalized rows it keeps. -/
module

public import proofs.«01_k».proof.Proof.Gen.Kernel4Ideal.Frame
public import proofs.«01_k».proof.Proof.Gen.Kernel4Ideal.Skeleton
public import Idealize.ShloMosaic.Lib.Pipeline.ValueKit
public import Idealize.ShloMosaic.Lib.VecWindow

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- The point is the first of its block of rows: there the rows are normalized. -/
abbrev first (i : grid0.Coords) : Prop := (Scalar.cmpi .ne (Scalar.extui (Scalar.cmpi .eq (BitVec.ofNat 32 (i 1).val) 0#32)) 0#32) = 1#1

/-- The point is the one whose columns hold the small gates: there the second output is written. -/
abbrev small (i : grid0.Coords) : Prop := k0_cond2 i = 1#1

/-- The points of a block of rows at which the rows are normalized: the first of each 17. -/
theorem first_iff (t : Fin cfg0.N) : first (grid0.coords t) ↔ t.val % 17 = 0 := by
  have ht : t.val < 272 := Nat.lt_of_lt_of_eq t.isLt N_0
  have e1 : (grid0.coords t 1).val = t.val / 1 % 17 := Pipeline.Grid.coords_val t 1 (by decide) rfl
  simp only [first, e1]
  word_cmp

/-- The points at which the second output is written: the seventh of each 17. -/
theorem small_iff (t : Fin cfg0.N) : small (grid0.coords t) ↔ t.val % 17 = 6 := by
  have ht : t.val < 272 := Nat.lt_of_lt_of_eq t.isLt N_0
  have e1 : (grid0.coords t 1).val = t.val / 1 % 17 := Pipeline.Grid.coords_val t 1 (by decide) rfl
  simp only [small, k0_cond2, e1]
  word_cmp

set_option maxHeartbeats 1000000 in
/-- The first point of a block of rows: the normalized rows are kept, the first output is written from them, the second is left as it was. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole)
    (hc : first i) (hs : ¬small i)
    (x0 : Vec F S1024x2048 .f32) (x1 : Vec F S1x2048 .f32) (x2 : Vec F S1x2048x1024 .bf16) (x3 : Vec F S1x128 .f32) (x4 : Vec F S1x128 .f32) (y : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (k0_pay1 x0 x1) x2) ∗ owns (c : Thread nD τ) arg8 fullShare y ∗ owns (c : Thread nD τ) arg9 fullShare (k0_pay1 x0 x1)) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6
    sl_exec (disch := first | sl_exact hc | sl_exact hs)
    sl_step
    have r4 : View.readAt (Elt F) arg4.view (Rect.unit (s := S1x2048x1024) ![0, 0, 0] S1x2048x1024.size inb_S1x2048x1024_S1x2048x1024_0_0_0).toLoadRect (harg4.unread x2) = x2 :=
      (View.readAt_full _ _ _).trans hf2
    have r2 : View.readAt (Elt F) arg2.view (Rect.unit (s := S1024x2048) ![0, 0] S1024x2048.size inb_S1024x2048_S1024x2048_0_0).toLoadRect (harg2.unread x0) = x0 :=
      (View.readAt_full _ _ _).trans hf0
    have r3 : View.readAt (Elt F) arg3.view (Rect.unit (s := S1x2048) ![0, 0] S1x2048.size inb_S1x2048_S1x2048_0_0).toLoadRect (harg3.unread x1) = x1 :=
      (View.readAt_full _ _ _).trans hf1
    have h9 (f) : View.read (Elt F) arg9.view (arg9.view.writes (Elt F) f (run_first.sl.HS0_1 c arg2 harg2 arg3 harg3 x0 x1)) = k0_pay1 x0 x1 := by
      unfold run_first.sl.HS0_1; rw [r2, r3]; exact View.read_writes_full _ _ _ _ _
    have v9 : run_first.sl.v3 c arg2 harg2 arg3 harg3 arg9 x0 x1 = k0_pay1 x0 x1 := by
      unfold run_first.sl.v3; exact (View.readAt_full _ _ _).trans (h9 _)
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      rw [v9, r4]; exact View.read_writes_full _ _ _ _ _
    isplitl [H6]
    · iexists _; isplitr; swap; · iexact H6
      ipureintro
      exact hf6
    iexists _; isplitr; swap; · iexact HS0
    ipureintro
    exact h9 _

set_option maxHeartbeats 1000000 in
/-- The point of the small gates: both outputs are written from the rows kept. -/
theorem run_small (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole)
    (hc : ¬first i) (hs : small i)
    (x0 : Vec F S1024x2048 .f32) (x1 : Vec F S1x2048 .f32) (x2 : Vec F S1x2048x1024 .bf16) (x3 : Vec F S1x128 .f32) (x4 : Vec F S1x128 .f32) (h : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 h x2) ∗ owns (c : Thread nD τ) arg8 fullShare (k0_pay4 h x2 x4 x3) ∗ owns (c : Thread nD τ) arg9 fullShare h) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hfs0
    sl_exec (disch := first | sl_exact hc | sl_exact hs)
    sl_step
    have r4 : View.readAt (Elt F) arg4.view (Rect.unit (s := S1x2048x1024) ![0, 0, 0] S1x2048x1024.size inb_S1x2048x1024_S1x2048x1024_0_0_0).toLoadRect (harg4.unread x2) = x2 :=
      (View.readAt_full _ _ _).trans hf2
    have r9 : View.readAt (Elt F) arg9.view (Rect.unit (s := S1024x2048) ![0, 0] S1024x2048.size inb_S1024x2048_S1024x2048_0_0).toLoadRect (harg9.unread h) = h :=
      (View.readAt_full _ _ _).trans hfs0
    have r6 : View.readAt (Elt F) arg6.view (Rect.unit (s := S1x128) ![0, 0] S1x128.size inb_S1x128_S1x128_0_0).toLoadRect (harg6.unread x4) = x4 :=
      (View.readAt_full _ _ _).trans hf4
    have r5 : View.readAt (Elt F) arg5.view (Rect.unit (s := S1x128) ![0, 0] S1x128.size inb_S1x128_S1x128_0_0).toLoadRect (harg5.unread x3) = x3 :=
      (View.readAt_full _ _ _).trans hf3
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      rw [r9, r4]; exact View.read_writes_full _ _ _ _ _
    isplitl [H6]
    · iexists _; isplitr; swap; · iexact H6
      ipureintro
      rw [r9, r4, r6, r5]; exact View.read_writes_full _ _ _ _ _
    iexists _; isplitr; swap; · iexact HS0
    ipureintro
    exact hfs0

set_option maxHeartbeats 1000000 in
/-- Any other point: the first output is written from the rows kept, the second is left as it was. -/
theorem run_other (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x2048 .bf16) (harg9 : arg9.IsWhole)
    (hc : ¬first i) (hs : ¬small i)
    (x0 : Vec F S1024x2048 .f32) (x1 : Vec F S1x2048 .f32) (x2 : Vec F S1x2048x1024 .bf16) (x3 : Vec F S1x128 .f32) (x4 : Vec F S1x128 .f32) (h : Vec F S1024x2048 .bf16) (y : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y ∗ owns (c : Thread nD τ) arg9 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 h x2) ∗ owns (c : Thread nD τ) arg8 fullShare y ∗ owns (c : Thread nD τ) arg9 fullShare h) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hfs0
    sl_exec (disch := first | sl_exact hc | sl_exact hs)
    sl_step
    have r4 : View.readAt (Elt F) arg4.view (Rect.unit (s := S1x2048x1024) ![0, 0, 0] S1x2048x1024.size inb_S1x2048x1024_S1x2048x1024_0_0_0).toLoadRect (harg4.unread x2) = x2 :=
      (View.readAt_full _ _ _).trans hf2
    have r9 : View.readAt (Elt F) arg9.view (Rect.unit (s := S1024x2048) ![0, 0] S1024x2048.size inb_S1024x2048_S1024x2048_0_0).toLoadRect (harg9.unread h) = h :=
      (View.readAt_full _ _ _).trans hfs0
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      rw [r9, r4]; exact View.read_writes_full _ _ _ _ _
    isplitl [H6]
    · iexists _; isplitr; swap; · iexact H6
      ipureintro
      exact hf6
    iexists _; isplitr; swap; · iexact HS0
    ipureintro
    exact hfs0

end Cert.Inproj

end
-- ==== Proof.InprojFrame.lean ====
/- The input projection's whole run: the block of normalized rows is made once for each 1024 rows and kept while the column blocks of the product go by; the second output waits in its buffer from the seventh column block to the last. -/
module

public import proofs.«01_k».proof.Proof.InprojBody
public import Idealize.ShloMosaic.Lib.Claim
public import Idealize.ShloMosaic.Lib.Pointwise
public import Idealize.ShloMosaic.Lib.Pipeline.TableIdle

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the windows are staged in at a grid point. -/
abbrev stg0 (t : Fin cfg0.N) : Memref sig .tc .vmem S1024x2048 .f32 := win0_0.stage (cfg0.slots t 0)
abbrev stg1 (t : Fin cfg0.N) : Memref sig .tc .vmem S1x2048 .f32 := win0_1.stage (cfg0.slots t 1)
abbrev stg2 (t : Fin cfg0.N) : Memref sig .tc .vmem S1x2048x1024 .bf16 := win0_2.stage (cfg0.slots t 2)
abbrev stg3 (t : Fin cfg0.N) : Memref sig .tc .vmem S1x128 .f32 := win0_3.stage (cfg0.slots t 3)
abbrev stg4 (t : Fin cfg0.N) : Memref sig .tc .vmem S1x128 .f32 := win0_4.stage (cfg0.slots t 4)
abbrev stg5 (t : Fin cfg0.N) : Memref sig .tc .vmem S1024x1024 .bf16 := win0_5.stage (cfg0.slots t 5)
abbrev stg6 (t : Fin cfg0.N) : Memref sig .tc .vmem S1024x128 .f32 := win0_6.stage (cfg0.slots t 6)

/-- The kernel's own buffer of normalized rows. -/
abbrev scr : Memref sig .tc .vmem S1024x2048 .bf16 := Memref.whole cc0_scratch0

/-- At the launch that buffer holds anything. -/
theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem lt_N (t : Fin cfg0.N) : t.val < 272 := lt_of_lt_of_eq t.isLt N_0

/-- Where each window's block lies at each point. -/
theorem idx : ∀ t : Fin cfg0.N, win0_0.index t = ![t.val / 17, 0] ∧ win0_1.index t = ![0, 0]
    ∧ win0_2.index t = ![0, 0, t.val % 17] ∧ win0_3.index t = ![0, 0] ∧ win0_4.index t = ![0, 0]
    ∧ win0_5.index t = ![t.val / 17, t.val % 17] ∧ win0_6.index t = ![t.val / 17, 0] :=
  (by decide +kernel : ∀ t : Fin grid0.N, _)

/-- Row `r` of the block of point `t`, as a row of the array. -/
def row (t : Fin cfg0.N) (r : Fin 1024) : Fin 16384 := ⟨t.val / 17 * 1024 + r.val, by have := lt_N t; omega⟩

/-- Column `k` of the block of point `t`, as a column of the product. -/
def col (t : Fin cfg0.N) (k : Fin 1024) : Fin 17408 := ⟨t.val % 17 * 1024 + k.val, by omega⟩

/-- The blocks the windows are on, entry by entry. -/
theorem blk0 (c : Dev nD) (t : Fin cfg0.N) (r : Fin 1024) (d : Fin 2048) :
    (iblk m c 0 t : Vec F S1024x2048 .f32) (ix2 r d) = (m ((c : Thread nD τ).loc main_arg0) : Vec F S16384x2048 .f32) (ix2 (row t r) d) := by
  unfold row
  blk_point [iblk, V, idx t]

theorem blk1 (c : Dev nD) (t : Fin cfg0.N) (d : Fin 2048) :
    (iblk m c 1 t : Vec F S1x2048 .f32) (ix2 0 d) = (m ((c : Thread nD τ).loc main_arg1) : Vec F S1x2048 .f32) (ix2 0 d) := by
  blk_point [iblk, V, idx t]

theorem blk2 (c : Dev nD) (t : Fin cfg0.N) (d : Fin 2048) (k : Fin 1024) :
    (iblk m c 2 t : Vec F S1x2048x1024 .bf16) (ix3 0 d k) = (m ((c : Thread nD τ).loc main_arg2) : Vec F S2x2048x17408 .bf16) (ix3 0 d (col t k)) := by
  unfold col
  blk_point [iblk, V, idx t]

theorem blk3 (c : Dev nD) (t : Fin cfg0.N) (d : Fin 128) :
    (iblk m c 3 t : Vec F S1x128 .f32) (ix2 0 d) = (m ((c : Thread nD τ).loc main_arg3) : Vec F S1x128 .f32) (ix2 0 d) := by
  blk_point [iblk, V, idx t]

theorem blk4 (c : Dev nD) (t : Fin cfg0.N) (d : Fin 128) :
    (iblk m c 4 t : Vec F S1x128 .f32) (ix2 0 d) = (m ((c : Thread nD τ).loc main_arg4) : Vec F S1x128 .f32) (ix2 0 d) := by
  blk_point [iblk, V, idx t]

/-- The normalized rows of the block of point `t`. -/
def rows (c : Dev nD) (t : Fin cfg0.N) : Vec F S1024x2048 .bf16 := k0_pay1 (F := F) (iblk m c 0 t) (iblk m c 1 t)

/-- They are the same for the 17 points of a block of rows. -/
theorem rows_same (c : Dev nD) (t t' : Fin cfg0.N) (h : t.val / 17 = t'.val / 17) : rows m c t = rows m c t' := by
  have e0 : (iblk m c 0 t : Vec F S1024x2048 .f32) = iblk m c 0 t' := by
    funext j
    idx_vars j
    have hr : row t j0 = row t' j0 := by unfold row; simp only [h]
    exact (blk0 m c t j0 j1).trans ((congrArg (fun r => (m ((c : Thread nD τ).loc main_arg0) : Vec F S16384x2048 .f32) (ix2 r j1)) hr).trans (blk0 m c t' j0 j1).symm)
  have e1 : (iblk m c 1 t : Vec F S1x2048 .f32) = iblk m c 1 t' := by
    funext j
    idx_vars j
    have hz : j0 = 0 := Subsingleton.elim _ _
    subst hz
    exact (blk1 m c t j1).trans (blk1 m c t' j1).symm
  unfold rows
  exact congrArg₂ (k0_pay1 (F := F)) e0 e1

/-- The seventh point of the block of rows of point `t`. -/
def seventh (t : Fin cfg0.N) : Fin cfg0.N := ⟨t.val / 17 * 17 + 6, lt_of_lt_of_eq (by have := lt_N t; omega : _ < 272) N_0.symm⟩

/-- The second output's block, as the seventh point of its block of rows makes it. -/
def gates (c : Dev nD) (t : Fin cfg0.N) : Vec F S1024x128 .f32 :=
  k0_pay4 (F := F) (rows m c (seventh t)) (iblk m c 2 (seventh t)) (iblk m c 4 (seventh t)) (iblk m c 3 (seventh t))

/-- Between two points the buffer holds the normalized rows of the point before. -/
def kept (c : Dev nD) : (n : ℕ) → n ≤ cfg0.N → sProp 𝕄
  | 0, _ => Pipeline.ΦA spec0 c
  | n + 1, h => iprop(owns (c : Thread nD τ) scr fullShare (rows m c ⟨n, h⟩) ∗ (∃ r, prngReg c r))

theorem kept_zero (c : Dev nD) (n : ℕ) (h : n ≤ cfg0.N) (hz : n = 0) : kept m c n h = (Pipeline.ΦA spec0 c : sProp 𝕄) := by
  subst hz; rfl

theorem kept_pos (c : Dev nD) (n : ℕ) (h : n ≤ cfg0.N) (hz : n ≠ 0) :
    kept m c n h = (iprop(owns (c : Thread nD τ) scr fullShare (rows m c ⟨n - 1, by omega⟩) ∗ (∃ r, prngReg c r)) : sProp 𝕄) := by
  obtain ⟨k, rfl⟩ := Nat.exists_eq_succ_of_ne_zero hz; rfl

/-- Whatever it holds, it is the buffer at some contents. -/
theorem kept_any (c : Dev nD) (n : ℕ) (h : n ≤ cfg0.N) :
    kept m c n h ⊢ (iprop((∃ d, owns (c : Thread nD τ) scr fullShare d) ∗ (∃ r, prngReg c r)) : sProp 𝕄) := by
  by_cases hz : n = 0
  · rw [kept_zero m c n h hz, rest_eq]
  · rw [kept_pos m c n h hz]
    iintro ⟨HS, Hg⟩
    isplitl [HS]
    · iexists _; iexact HS
    iexact Hg

/-- The run's data: inputs stay at their blocks, the first output's block is the rows' product with the column block, the
    second's is `gates`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (F := F) (rows m c t) (iblk m c 2 t)
    | ⟨6, _⟩ => gates m c t
  Φ t := kept m c t.val (Nat.le_of_lt_succ t.isLt)
  q _ := fullShare
  owed _ := 0

/-- The data's arrays are those the region finds. -/
theorem A_eq (c : Dev nD) (w : Fin cfg0.W) : (dats m 0 c).A w = V m c (Pipeline.arrRef spec0 w) := by dsimp only [dats]

/-- What the body leaves in each window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay3 (F := F) (rows m c t) (iblk m c 2 t) := by dsimp only [dats]
theorem after_6 (c : Dev nD) (t : Fin cfg0.N) : (dats m 0 c).after 6 t = gates m c t := by dsimp only [dats]

/-- What each input window holds before the body: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The second output is left alone at every point but the seventh of each block of rows. -/
theorem idle_6 (t : Fin cfg0.N) (h : ¬t.val % 17 = 6) : cfg0.idle 6 (cfg0.grid.coords t) = true := by
  have hs : ¬small (grid0.coords t) := fun e => h ((small_iff t).mp e)
  show (!(k0_cond2 (grid0.coords t) == 1#1)) = true
  rw [Bool.not_eq_true', beq_eq_false_iff_ne]
  exact hs
theorem live_6 (t : Fin cfg0.N) (h : t.val % 17 = 6) : cfg0.idle 6 (cfg0.grid.coords t) = false := by
  have hs : small (grid0.coords t) := (small_iff t).mpr h
  show (!(k0_cond2 (grid0.coords t) == 1#1)) = false
  rw [Bool.not_eq_false', beq_iff_eq]
  exact hs
theorem noflush_6 (t : Fin cfg0.N) (h : ¬t.val % 17 = 16) : (cfg0.win 6).flush t = false :=
  Bool.eq_false_iff.mpr fun e => h ((flush0_6 t).mp e)

/-- Its buffer holds what the seventh point made from there on to the last. -/
theorem before_6 (c : Dev nD) (t : Fin cfg0.N) (h : 6 < t.val % 17) (d) : (dats m 0 c).before 6 t d = gates m c t := by
  have hN := lt_N t
  rw [(dats m 0 c).before_idle_run 6 (fun t => (cfg0.win 6).fetch_out rfl t) d (t.val % 17 - 7) t (by omega)
    (fun j h1 h2 => ⟨idle_6 j (by omega), noflush_6 j (by omega)⟩)]
  rw [(dats m 0 c).before_of_pos 6 _ (by show t.val - (t.val % 17 - 7) ≠ 0; omega) ((cfg0.win 6).fetch_out rfl _),
    noflush_6 _ (by show ¬(t.val - (t.val % 17 - 7) - 1) % 17 = 16; omega), if_neg Bool.false_ne_true]
  unfold Dat.left
  rw [live_6 _ (by show (t.val - (t.val % 17 - 7) - 1) % 17 = 6; omega)]
  dsimp only
  unfold Dat.kept
  rw [Pipeline.fill_of_clip_none 6 _ (fun _ => rfl) d ((dats m 0 c).after 6 _), Window.fill_cut, after_6]
  unfold gates
  have hs : ∀ t' : Fin cfg0.N, t'.val / 17 = t.val / 17 → seventh t' = seventh t := fun t' e => by unfold seventh; simp only [e]
  rw [hs _ (by show (t.val - (t.val % 17 - 7) - 1) / 17 = t.val / 17; omega)]

/-- What the body leaves of the second output's buffer. -/
def left6 (c : Dev nD) (t : Fin cfg0.N) : sProp 𝕄 :=
  match cfg0.idle 6 (cfg0.grid.coords t) with
  | true => match (cfg0.win 6).flush t with
    | false => iprop(∃ d, owns (c : Thread nD τ) (stg6 t) fullShare ((dats m 0 c).before 6 t d))
    | true => owns (c : Thread nD τ) (stg6 t) fullShare ((dats m 0 c).after 6 t)
  | false => owns (c : Thread nD τ) (stg6 t) fullShare ((dats m 0 c).after 6 t)

/-- At a point that does not write it the buffer is handed back as it was found. -/
theorem left6_idle (c : Dev nD) (t : Fin cfg0.N) (h : ¬t.val % 17 = 6) (d) :
    owns (c : Thread nD τ) (stg6 t) fullShare ((dats m 0 c).before 6 t d) ⊢ (left6 m c t : sProp 𝕄) := by
  unfold left6
  rw [idle_6 t h]
  dsimp only
  by_cases hf : t.val % 17 = 16
  · rw [(flush0_6 t).mpr hf]
    dsimp only
    rw [before_6 m c t (by omega), after_6]
  · rw [noflush_6 t hf]
    dsimp only
    iintro H
    iexists d
    iexact H

theorem left6_live (c : Dev nD) (t : Fin cfg0.N) (h : t.val % 17 = 6) :
    (left6 m c t : sProp 𝕄) = owns (c : Thread nD τ) (stg6 t) fullShare (gates m c t) := by
  unfold left6
  rw [live_6 t h]
  dsimp only
  rw [after_6]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it leaves. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ left6 m c t)

set_option maxHeartbeats 1600000 in
/-- The body does so at every grid point: the first of its block of rows, the seventh, and the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = iprop(owns (c : Thread nD τ) scr fullShare (rows m c t) ∗ (∃ r, prngReg c r)) from rfl,
    show (dats m 0 c).Φ t.castSucc = kept m c t.val (Nat.le_of_lt t.isLt) from rfl]
  have hN := lt_N t
  by_cases h0 : t.val % 17 = 0
  · have h6 : ¬t.val % 17 = 6 := by omega
    iintro ⟨HK, Ho, ⟨%d0, H0⟩, ⟨%d1, H1⟩, ⟨%d2, H2⟩, ⟨%d3, H3⟩, ⟨%d4, H4⟩, ⟨%d5, H5⟩, ⟨%d6, H6⟩⟩
    ihave HK' := (kept_any m c t.val (Nat.le_of_lt t.isLt)) $$ HK
    icases HK' with ⟨HS, Hg⟩
    iapply ((run_first c (grid0.coords t) _ _ _ _ _ _ _ _ _ _ _ _ _ _ _ _ ((first_iff t).mpr h0) (fun e => h6 ((small_iff t).mp e)) (iblk m c 0 t) (iblk m c 1 t) (iblk m c 2 t) (iblk m c 3 t) (iblk m c 4 t) ((dats m 0 c).before 6 t d6)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (left6_idle m c t h6 d6)
    iexact H6
  have hz : t.val ≠ 0 := by omega
  rw [kept_pos m c t.val _ hz, rows_same m c ⟨t.val - 1, by omega⟩ t (by show (t.val - 1) / 17 = t.val / 17; omega)]
  by_cases h6 : t.val % 17 = 6
  · have hse : seventh t = t := by unfold seventh; apply Fin.ext; show t.val / 17 * 17 + 6 = t.val; omega
    rw [left6_live m c t h6]
    unfold gates
    rw [hse]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((run_small c (grid0.coords t) _ _ _ _ _ _ _ _ _ _ _ _ _ _ _ _ (fun e => h0 ((first_iff t).mp e)) ((small_iff t).mpr h6) (iblk m c 0 t) (iblk m c 1 t) (iblk m c 2 t) (iblk m c 3 t) (iblk m c 4 t) (rows m c t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((run_other c (grid0.coords t) _ _ _ _ _ _ _ _ _ _ _ _ _ _ _ _ (fun e => h0 ((first_iff t).mp e)) (fun e => h6 ((small_iff t).mp e)) (iblk m c 0 t) (iblk m c 1 t) (iblk m c 2 t) (iblk m c 3 t) (iblk m c 4 t) (rows m c t) ((dats m 0 c).before 6 t d6)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (left6_idle m c t h6 d6)
    iexact H6

/-- The body that the pipeline calls at a point. -/
theorem called (t : Fin cfg0.N) : defs₀ (F := F) .tc cfg0.body (cfg0.bodyArgs t (cfg0.slots t)) = bodyAt0 t := by
  unfold defs₀; rw [Defs.onTc_tc]

/-- So the pipeline's body obligation holds. -/
theorem obligation (c : Dev nD) : BodyObligation (dats (F := F) m 0 c) (defs₀ (F := F)) Variants.none () Set.univ := fun t => by
  rw [bigSep_W0, bigSep_W0, called]
  exact triple_restated (sound_body m c t) rfl .rfl fun _ => .rfl

/-- The launch hands the region the buffer at anything, -/
theorem hin (c : Dev nD) : Pipeline.ΦA spec0 c ⊢ (dats m 0 c).Φ 0 := by
  rw [show (dats m 0 c).Φ 0 = (Pipeline.ΦA spec0 c : sProp 𝕄) from rfl]

/-- and is given it back at anything. -/
theorem hout (c : Dev nD) : (dats m 0 c).Φ (Fin.last cfg0.N) ⊢ Pipeline.ΦA spec0 c := by
  rw [rest_eq]
  rw [show (dats m 0 c).Φ (Fin.last cfg0.N) = kept m c cfg0.N (Nat.le_refl _) from rfl]
  exact kept_any m c _ _

set_option backward.isDefEq.respectTransparency.types false in
/-- The run, with every counter of the machine at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The run. -/
theorem run_main : θ_run defs (onTc (τ := τ) (main (F := F))) (s₀ m ρ) (Pipeline.FramePost cfgs (dats m) 0 (V m)) :=
  (θ_run defs _ _).mono (fun _ h => h.1) (run_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Inproj

end
-- ==== Proof.InprojPay.lean ====
/- The input projection's arithmetic at an index: a product entry, and the two gate activations read off the small columns. -/
module

public import proofs.«01_k».proof.Proof.InprojFrame
public import proofs.«01_k».proof.Proof.FfnPay

@[expose] public section

set_option maxRecDepth 16384

noncomputable section

namespace Cert.Inproj

open Idealize.ShloMosaic Idealize.ShloMosaic.TcCoe Idealize.SL.Sem
open Cert.Kernel4Ideal Cert.Kernel4Ideal.Gen
open Cert.Ffn (rs)

/-- A block of normalized rows, at an index. -/
theorem pay1 (x : Vec Ideal S1024x2048 .f32) (g : Vec Ideal S1x2048 .f32) (r : Fin 1024) (d : Fin 2048) :
    k0_pay1 (F := Ideal) x g (ix2 r d) = x (ix2 r d) * rs (fun e => x (ix2 r e)) * g (ix2 0 d) := by
  pointwise [k0_pay1]
  rfl

/-- The product of the rows with a block of columns, at an index. -/
theorem pay2 (h : Vec Ideal S1024x2048 .bf16) (w : Vec Ideal S1x2048x1024 .bf16) (r : Fin 1024) (k : Fin 1024) :
    k0_pay2 (F := Ideal) h w (ix2 r k) = ∑ d : Fin 2048, h (ix2 r d) * w (ix3 0 d k) := by
  pointwise [k0_pay2]

theorem pay3 (h : Vec Ideal S1024x2048 .bf16) (w : Vec Ideal S1x2048x1024 .bf16) (r : Fin 1024) (k : Fin 1024) :
    k0_pay3 (F := Ideal) h w (ix2 r k) = ∑ d : Fin 2048, h (ix2 r d) * w (ix3 0 d k) := by
  pointwise [k0_pay3, k0_pay2]

/-- The lanes of the decay gate: eight to fifteen. -/
theorem lane : ∀ k : Fin 128, IntOp.andi (IntOp.cmpi CmpIPredicate.sge (BitVec.ofNat 32 k.val) 8#32)
    (IntOp.cmpi CmpIPredicate.slt (BitVec.ofNat 32 k.val) 16#32) = if 8 ≤ k.val ∧ k.val < 16 then 1#1 else 0#1 := by
  decide

/-- `log (1 + exp z)`, as the larger of `z` and zero plus `log (1 + exp (-|z|))`. -/
def softplus (z : EReal) : EReal := max z 0 + Ideal.log1p (Ideal.exp (-max z (-z)))

/-- A gate activation: of lane `k` with product entry `z`, time-step bias `b` and logarithm of the decay rate `a`. -/
def gate (z b a : EReal) (k : Fin 128) : EReal :=
  if 8 ≤ k.val ∧ k.val < 16 then -Ideal.exp a * softplus (z + b) else Ideal.div 1 (1 + Ideal.exp (-z))

/-- The choice by lane is a choice by the lane's number. -/
theorem by_lane (k : Fin 128) (x y : EReal) :
    Scalar.select (IntOp.andi (IntOp.cmpi CmpIPredicate.sge (BitVec.ofNat 32 k.val) 8#32)
      (IntOp.cmpi CmpIPredicate.slt (BitVec.ofNat 32 k.val) 16#32)) x y = if 8 ≤ k.val ∧ k.val < 16 then x else y := by
  rw [lane]
  by_cases h : 8 ≤ k.val ∧ k.val < 16
  · rw [if_pos h, if_pos h]; rfl
  · rw [if_neg h, if_neg h]; rfl

/-- The gate activations of a block, at an index: of columns 512 to 639 of the product block. -/
theorem pay4 (h : Vec Ideal S1024x2048 .bf16) (w : Vec Ideal S1x2048x1024 .bf16) (b a : Vec Ideal S1x128 .f32) (r : Fin 1024) (k : Fin 128) :
    k0_pay4 (F := Ideal) h w b a (ix2 r k)
      = gate (∑ d : Fin 2048, h (ix2 r d) * w (ix3 0 d ⟨512 + k.val, by omega⟩)) (b (ix2 0 k)) (a (ix2 0 k)) k := by
  have e : ∀ z : EReal, (FloatOps.absf (F := Ideal) (φ := .f32) z : EReal) = max z (-z) := fun _ => rfl
  unfold gate softplus
  pointwise [k0_pay4, k0_pay2]
  rw [by_lane]
  simp only [zero_sub, e]

end Cert.Inproj
-- ==== Proof.InprojValue.lean ====
/- The input projection's two result arrays, by a kernel run and by the plainly written reference. -/
module

public import proofs.«01_k».proof.Proof.InprojPay
public import proofs.«01_k».proof.Proof.Gen.Reference4Ideal.Run

@[expose] public section

set_option maxRecDepth 16384

noncomputable section

namespace Cert.Inproj

open Idealize.ShloMosaic Idealize.ShloMosaic.TcCoe Idealize.SL.Sem
open Cert.Kernel4Ideal Cert.Kernel4Ideal.Gen
open Cert.Ffn (rs)

/-- Entry `(r, e)` of the projection: the normalized row `r` against column `e`. -/
def proj (X : Vec Ideal S16384x2048 .f32) (G : Vec Ideal S1x2048 .f32) (W : Vec Ideal S2x2048x17408 .bf16) (r : Fin 16384) (e : Fin 17408) : EReal :=
  ∑ d : Fin 2048, X (ix2 r d) * rs (fun x => X (ix2 r x)) * G (ix2 0 d) * W (ix3 0 d e)

/-- The first result. -/
def U (X : Vec Ideal S16384x2048 .f32) (G : Vec Ideal S1x2048 .f32) (W : Vec Ideal S2x2048x17408 .bf16) : Vec Ideal S16384x17408 .bf16 :=
  fun j => proj X G W (j 0) (j 1)

/-- The second: the gate activations of columns 6656 to 6783. -/
def A (X : Vec Ideal S16384x2048 .f32) (G : Vec Ideal S1x2048 .f32) (W : Vec Ideal S2x2048x17408 .bf16) (L B : Vec Ideal S1x128 .f32) :
    Vec Ideal S16384x128 .f32 :=
  fun j => gate (proj X G W (j 0) ⟨6656 + (j 1).val, by have : (j 1).val < 128 := (j 1).isLt; omega⟩) (B (ix2 0 (j 1))) (L (ix2 0 (j 1))) (j 1)

variable (m : (ℓ : Loc nD τ sig) → Buf (Elt Ideal) ℓ)

/-- Device `c`'s arguments as arrays. -/
abbrev aX (c : Dev nD) : Vec Ideal S16384x2048 .f32 := m ((c : Thread nD τ).loc main_arg0)
abbrev aG (c : Dev nD) : Vec Ideal S1x2048 .f32 := m ((c : Thread nD τ).loc main_arg1)
abbrev aW (c : Dev nD) : Vec Ideal S2x2048x17408 .bf16 := m ((c : Thread nD τ).loc main_arg2)
abbrev aL (c : Dev nD) : Vec Ideal S1x128 .f32 := m ((c : Thread nD τ).loc main_arg3)
abbrev aB (c : Dev nD) : Vec Ideal S1x128 .f32 := m ((c : Thread nD τ).loc main_arg4)

/-- A point's block of the first result. -/
theorem block_u (c : Dev nD) (t : Fin cfg0.N) (r k : Fin 1024) :
    k0_pay3 (F := Ideal) (rows m c t) (iblk m c 2 t) (ix2 r k) = proj (aX m c) (aG m c) (aW m c) (row t r) (col t k) := by
  rw [pay3]
  unfold rows
  simp only [pay1, blk0, blk1, blk2]
  rfl

/-- A block of rows' part of the second result. -/
theorem block_a (c : Dev nD) (t : Fin cfg0.N) (r : Fin 1024) (k : Fin 128) :
    gates m c t (ix2 r k) = gate (proj (aX m c) (aG m c) (aW m c) (row t r) ⟨6656 + k.val, by omega⟩) (aB m c (ix2 0 k)) (aL m c (ix2 0 k)) k := by
  have hN := lt_N t
  have hr : row (seventh t) r = row t r := by
    apply Fin.ext
    show (t.val / 17 * 17 + 6) / 17 * 1024 + r.val = t.val / 17 * 1024 + r.val
    omega
  have hc : col (seventh t) ⟨512 + k.val, by omega⟩ = ⟨6656 + k.val, by omega⟩ := by
    apply Fin.ext
    show (t.val / 17 * 17 + 6) % 17 * 1024 + (512 + k.val) = 6656 + k.val
    omega
  unfold gates
  rw [pay4]
  unfold rows
  simp only [pay1, blk0, blk1, blk2, blk3, blk4, hr, hc]
  rfl

/-- The first result array after a run. -/
theorem out_u (c : Dev nD) : (dats m 0 c).arrAt 5 cfg0.N = U (aX m c) (aG m c) (aW m c) := by
  refine (dats m 0 c).arrAt_eq_of_covers 5 _ (by decide +kernel) fun t hf y => ?_
  blk_simp
  rw [after_5]
  have h := block_u m c t (y 0) (y 1)
  have hy : (ix2 (y 0) (y 1) : S1024x1024.Idx) = y := by blk_ext
  rw [hy] at h
  refine h.trans ?_
  have hr : (win0_5.blk t).view.emb y 0 = row t (y 0) := by
    apply Fin.ext
    blk_simp [row, idx t]
  have hc : (win0_5.blk t).view.emb y 1 = col t (y 1) := by
    apply Fin.ext
    blk_simp [col, idx t]
  unfold U
  rw [hr, hc]

/-- The second result array after a run. -/
theorem out_a (c : Dev nD) : (dats m 0 c).arrAt 6 cfg0.N = A (aX m c) (aG m c) (aW m c) (aL m c) (aB m c) := by
  refine (dats m 0 c).arrAt_eq_of_covers 6 _ (by decide +kernel) fun t hf y => ?_
  blk_simp
  rw [after_6]
  have h := block_a m c t (y 0) (y 1)
  have hy : (ix2 (y 0) (y 1) : S1024x128.Idx) = y := by blk_ext
  rw [hy] at h
  refine h.trans ?_
  have hr : (win0_6.blk t).view.emb y 0 = row t (y 0) := by
    apply Fin.ext
    blk_simp [row, idx t]
  have hc : (win0_6.blk t).view.emb y 1 = y 1 := by
    apply Fin.ext
    blk_simp [idx t]
  unfold A
  simp only [hr, hc]

end Cert.Inproj
-- ==== Proof.InprojReference.lean ====
/- The plainly written input projection's two results. -/
module

public import proofs.«01_k».proof.Proof.InprojValue

@[expose] public section

set_option maxRecDepth 16384

noncomputable section

namespace Cert.Inproj

open Idealize.ShloMosaic Idealize.ShloMosaic.TcCoe Idealize.SL.Sem
open Cert.Reference4Ideal

variable (m : (ℓ : Loc nD τ sig) → Buf (Elt Ideal) ℓ)

/-- The second result of the reference. -/
theorem ref_a (c : Dev nD) :
    Value.res_main_v37 (F := Ideal) m c
      = A (m (c.tc.loc main_arg0)) (m (c.tc.loc main_arg1)) (m (c.tc.loc main_arg2)) (m (c.tc.loc main_arg3)) (m (c.tc.loc main_arg4)) := by
  funext j
  idx_vars j
  have e : ∀ z : EReal, (FloatOps.absf (F := Ideal) (φ := .f32) z : EReal) = max z (-z) := fun _ => rfl
  unfold A gate softplus proj Ffn.rs
  pointwise [Value.res_main_v37]
  rw [by_lane]
  simp only [ne_eq, not_true_eq_false, if_false, e]

end Cert.Inproj
-- ==== Proof.InprojClaim.lean ====
/- The input projection: the claims. -/
module

public import proofs.«01_k».proof.Defs
public import proofs.«01_k».proof.Proof.InprojReference
public import proofs.«01_k».proof.Proof.InprojBitsFrame
public import Idealize.ShloMosaic.Lib.Quiescent

@[expose] public section

set_option maxRecDepth 16384

noncomputable section

namespace Cert.Inproj

open Idealize.ShloMosaic Idealize.ShloMosaic.TcCoe Idealize.SL.Sem Idealize.ShloMosaic.Tactic

/-- The input projection kernel and the plainly written projection leave the same two results. -/
theorem equal : Cert.algebraic_Kernel4Ideal_Reference4Ideal := by
  pair_intro
  · run_from Cert.Inproj.run_main m g
  · run_from Cert.Reference4Ideal.Value.run m' g'
    · refine Eq.trans ?_ (out_u m c).symm
      funext j
      idx_vars j
      unfold U proj Ffn.rs
      pointwise []
    · obtain ⟨h0, h1, h2, h3, h4⟩ := hagree c
      refine Eq.trans ?_ (out_a m c).symm
      refine (ref_a m' c).trans ?_
      show A _ _ _ _ _ = A _ _ _ _ _
      rw [h0, h1, h2, h3, h4]

/-- The printed program runs and leaves its arguments. -/
theorem frame_kernel : Cert.quiescent_Kernel4 := fun m ρ _ => Cert.InprojBits.frame m ρ

/-- So does its idealization. -/
theorem frame_ideal : Cert.quiescent_Kernel4Ideal := fun m ρ _ => Cert.Inproj.frame m ρ

/-- So does the reference. -/
theorem frame_reference : Cert.quiescent_Reference4Ideal := fun m ρ _ =>
  (θ_run _ _ _).mono (fun _ h => ⟨fun c => (h c).2.2, sem_eq_zero_of_no_sems rfl _⟩) (Cert.Reference4Ideal.Value.run m ρ)

/-- Nothing was rewritten. -/
theorem same : Cert.preserves_Kernel4_Kernel4Ideal := trivial

end Cert.Inproj
-- ==== Proof.MergeBody.lean ====
/- One grid point of the merge, run once: what it leaves in its output block, in the buffer of the third mixer's gated rows, and in the buffer of merged slices. -/
module

public import proofs.«01_k».proof.Proof.Gen.Kernel5Ideal.Frame
public import proofs.«01_k».proof.Proof.Gen.Kernel5Ideal.Skeleton
public import Idealize.ShloMosaic.Lib.Pipeline.ValueKit
public import Idealize.ShloMosaic.Lib.VecWindow

@[expose] public section

set_option maxRecDepth 16384

noncomputable section

namespace Cert.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-- The point is the first of its block of rows: there the third mixer's rows are normalized and gated. -/
abbrev first (i : grid0.Coords) : Prop := (Scalar.cmpi .ne (Scalar.extui (Scalar.cmpi .eq (BitVec.ofNat 32 (i 1).val) 0#32)) 0#32) = 1#1

/-- The point merges a slice of columns. -/
abbrev early (i : grid0.Coords) : Prop := k0_cond2 i = 1#1

/-- The point projects the merged rows onto a block of output columns. -/
abbrev late (i : grid0.Coords) : Prop := k0_cond3 i = 1#1

/-- Of each eight points the first, -/
theorem first_iff (t : Fin cfg0.N) : first (grid0.coords t) ↔ t.val % 8 = 0 := by
  have ht : t.val < 128 := Nat.lt_of_lt_of_eq t.isLt N_0
  have e1 : (grid0.coords t 1).val = t.val / 1 % 8 := Pipeline.Grid.coords_val t 1 (by decide) rfl
  simp only [first, e1]
  word_cmp

/-- the first four, -/
theorem early_iff (t : Fin cfg0.N) : early (grid0.coords t) ↔ t.val % 8 < 4 := by
  have ht : t.val < 128 := Nat.lt_of_lt_of_eq t.isLt N_0
  have e1 : (grid0.coords t 1).val = t.val / 1 % 8 := Pipeline.Grid.coords_val t 1 (by decide) rfl
  simp only [early, k0_cond2, e1]
  word_cmp

/-- and the last four. -/
theorem late_iff (t : Fin cfg0.N) : late (grid0.coords t) ↔ 4 ≤ t.val % 8 := by
  have ht : t.val < 128 := Nat.lt_of_lt_of_eq t.isLt N_0
  have e1 : (grid0.coords t 1).val = t.val / 1 % 8 := Pipeline.Grid.coords_val t 1 (by decide) rfl
  simp only [late, k0_cond3, e1]
  word_cmp

/-- Slice `j` of the merged rows. -/
def slice (h : Vec F S4x1024x512 .bf16) (j : Fin 4) : Vec F S1x1024x512 .bf16 := fun y => h (ix3 j (y 1) (y 2))

/-- Rows `512 j` to `512 j + 511` of a block of the output projection. -/
def piece (w : Vec F S1x2048x512 .bf16) (j : Fin 4) : Vec F S1x512x512 .bf16 :=
  fun y => w (ix3 0 ⟨512 * j.val + (y 1).val, by have : (y 1).val < 512 := (y 1).isLt; omega⟩ (y 2))

/-- One slice of the merge: the three mixers' rows, projected, each times its gate, added. -/
def merged (yc : Vec F S1024x1024 .bf16) (ya yb : Vec F S1024x1024 .bf16) (ga gb gc : Vec F S1024x512 .bf16)
    (pa pb pc : Vec F S1x1024x512 .bf16) : Vec F S1x1024x512 .bf16 :=
  k0_pay2 (k0_pay4 ga ya pa gb yb pb) (k0_pay5 gc) (Scalar.ofBits .f32 0x3F800000#32) yc pc

/-- One block of the result: the input plus the merged rows times the block of columns, slice by slice. -/
def out (x : Vec F S1024x512 .f32) (h : Vec F S4x1024x512 .bf16) (w : Vec F S1x2048x512 .bf16) : Vec F S1024x512 .f32 :=
  k0_pay3 x (slice h 0) (piece w 0) (slice h 1) (piece w 1) (slice h 2) (piece w 2) (slice h 3) (piece w 3)

/-- A slice is a window of the buffer. -/
theorem slice_eq (h : Vec F S4x1024x512 .bf16) (j : Fin 4) (inb : ∀ a, (![j.val, 0, 0] : Fin 3 → ℕ) a + S1x1024x512.size a ≤ S4x1024x512.size a) :
    VecWindow.window (s := S4x1024x512) h ![j.val, 0, 0] S1x1024x512.size inb = slice h j :=
  funext fun y => congrArg h (funext fun a => Fin.ext <| by
    have h0 : (y 0).val < 1 := (y 0).isLt
    show (![j.val, 0, 0] : Fin 3 → ℕ) a + 1 * (y a).val = _
    fin_cases a
    · show j.val + 1 * (y 0).val = j.val
      omega
    · show 0 + 1 * (y 1).val = (y 1).val
      omega
    · show 0 + 1 * (y 2).val = (y 2).val
      omega)

/-- A piece is a window of the block. -/
theorem piece_eq (w : Vec F S1x2048x512 .bf16) (j : Fin 4) (inb : ∀ a, (![0, 512 * j.val, 0] : Fin 3 → ℕ) a + S1x512x512.size a ≤ S1x2048x512.size a) :
    VecWindow.window (s := S1x2048x512) w ![0, 512 * j.val, 0] S1x512x512.size inb = piece w j :=
  funext fun y => congrArg w (funext fun a => Fin.ext <| by
    have h0 : (y 0).val < 1 := (y 0).isLt
    show (![0, 512 * j.val, 0] : Fin 3 → ℕ) a + 1 * (y a).val = _
    fin_cases a
    · show 0 + 1 * (y 0).val = 0
      omega
    · show 512 * j.val + 1 * (y 1).val = 512 * j.val + (y 1).val
      omega
    · show 0 + 1 * (y 2).val = (y 2).val
      omega)

/-- The buffer of merged slices with slice `n` replaced. -/
def stored (h : Vec F S4x1024x512 .bf16) (n : ℕ) (v : Vec F S1x1024x512 .bf16) : Vec F S4x1024x512 .bf16 :=
  VecWindow.put (s := S4x1024x512) h ![n, 0, 0] S1x1024x512.size v

theorem inb4 (j : Fin 4) : ∀ a, (![j.val, 0, 0] : Fin 3 → ℕ) a + S1x1024x512.size a ≤ S4x1024x512.size a := by
  fin_cases j <;> decide

theorem slice_stored_same (h : Vec F S4x1024x512 .bf16) (j : Fin 4) (v : Vec F S1x1024x512 .bf16) : slice (stored h j.val v) j = v :=
  (slice_eq _ j (inb4 j)).symm.trans (VecWindow.window_put_same _ _ _ (inb4 j) _)

theorem slice_stored_other (h : Vec F S4x1024x512 .bf16) (j : Fin 4) (n : ℕ) (hn : n ≠ j.val) (v : Vec F S1x1024x512 .bf16) :
    slice (stored h n v) j = slice h j := by
  rw [← slice_eq _ j (inb4 j), ← slice_eq h j (inb4 j)]
  refine VecWindow.window_put_of_disjoint (s := S4x1024x512) _ _ _ _ _ (inb4 j) _ 0 ?_
  show j.val + 1 ≤ n ∨ n + 1 ≤ j.val
  omega

/-- Where a point stores its slice. -/
theorem off (i : grid0.Coords) : k0_off1 i = ![(i 1).val, 0, 0] := by
  have h : ∀ (n : Fin 8) (a : Fin 3), (![(BitVec.ofNat 32 n.val).toNat, 0, 0] : Fin 3 → ℕ) a = ![n.val, 0, 0] a := by decide
  exact funext fun a => h (i 1) a

set_option maxHeartbeats 2000000 in
/-- A point that merges a slice, not the first: the slice is stored, everything else is left as it was. -/
theorem run_mid (c : Dev nD) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x2048x512 .bf16) (harg14 : arg14.IsWhole) (arg15 : Memref sig .tc .vmem S1024x512 .f32) (harg15 : arg15.IsWhole) (arg16 : Memref sig .tc .vmem S1024x1024 .bf16) (harg16 : arg16.IsWhole) (arg17 : Memref sig .tc .vmem S4x1024x512 .bf16) (harg17 : arg17.IsWhole)
    (hc : ¬first i) (h2 : early i) (h3 : ¬late i)
    (x0 : Vec F S1024x512 .f32) (x1 : Vec F S1024x1024 .bf16) (x2 : Vec F S1024x1024 .bf16) (x3 : Vec F S1024x1024 .bf16) (x4 : Vec F S1024x1024 .bf16) (x5 : Vec F S1x1024 .f32) (x6 : Vec F S1024x512 .bf16) (x7 : Vec F S1024x512 .bf16) (x8 : Vec F S1024x512 .bf16) (x9 : Vec F S1x1024x512 .bf16) (x10 : Vec F S1x1024x512 .bf16) (x11 : Vec F S1x1024x512 .bf16) (x12 : Vec F S1x2048x512 .bf16) (y : Vec F S1024x512 .f32) (g : Vec F S1024x1024 .bf16) (h : Vec F S4x1024x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare y ∗ owns (c : Thread nD τ) arg16 fullShare g ∗ owns (c : Thread nD τ) arg17 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare y ∗ owns (c : Thread nD τ) arg16 fullShare g ∗ owns (c : Thread nD τ) arg17 fullShare (stored h (i 1).val (merged g x1 x2 x6 x7 x8 x9 x10 x11))) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_merge_eq_skeleton]; unfold cc0_merge_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg15.eq_unread hf13; obtain rfl := harg16.eq_unread hs0; obtain rfl := harg17.eq_unread hs1
    sl_exec (disch := first | sl_exact hc | sl_exact h2 | sl_exact h3)
    sl_step
    have r8 : View.readAt (Elt F) arg8.view (Rect.unit (s := S1024x512) ![0, 0] S1024x512.size inb_S1024x512_S1024x512_0_0).toLoadRect (harg8.unread x6) = x6 :=
      (View.readAt_full _ _ _).trans hf6
    have r3 : View.readAt (Elt F) arg3.view (Rect.unit (s := S1024x1024) ![0, 0] S1024x1024.size inb_S1024x1024_S1024x1024_0_0).toLoadRect (harg3.unread x1) = x1 :=
      (View.readAt_full _ _ _).trans hf1
    have r11 : View.readAt (Elt F) arg11.view (Rect.unit (s := S1x1024x512) ![0, 0, 0] S1x1024x512.size inb_S1x1024x512_S1x1024x512_0_0_0).toLoadRect (harg11.unread x9) = x9 :=
      (View.readAt_full _ _ _).trans hf9
    have r9 : View.readAt (Elt F) arg9.view (Rect.unit (s := S1024x512) ![0, 0] S1024x512.size inb_S1024x512_S1024x512_0_0).toLoadRect (harg9.unread x7) = x7 :=
      (View.readAt_full _ _ _).trans hf7
    have r4 : View.readAt (Elt F) arg4.view (Rect.unit (s := S1024x1024) ![0, 0] S1024x1024.size inb_S1024x1024_S1024x1024_0_0).toLoadRect (harg4.unread x2) = x2 :=
      (View.readAt_full _ _ _).trans hf2
    have r12 : View.readAt (Elt F) arg12.view (Rect.unit (s := S1x1024x512) ![0, 0, 0] S1x1024x512.size inb_S1x1024x512_S1x1024x512_0_0_0).toLoadRect (harg12.unread x10) = x10 :=
      (View.readAt_full _ _ _).trans hf10
    have r10 : View.readAt (Elt F) arg10.view (Rect.unit (s := S1024x512) ![0, 0] S1024x512.size inb_S1024x512_S1024x512_0_0).toLoadRect (harg10.unread x8) = x8 :=
      (View.readAt_full _ _ _).trans hf8
    have r13 : View.readAt (Elt F) arg13.view (Rect.unit (s := S1x1024x512) ![0, 0, 0] S1x1024x512.size inb_S1x1024x512_S1x1024x512_0_0_0).toLoadRect (harg13.unread x11) = x11 :=
      (View.readAt_full _ _ _).trans hf11
    have r16 : View.readAt (Elt F) arg16.view (Rect.unit (s := S1024x1024) ![0, 0] S1024x1024.size inb_S1024x1024_S1024x1024_0_0).toLoadRect (harg16.unread g) = g :=
      (View.readAt_full _ _ _).trans hs0
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; swap; · iexact H13
      ipureintro
      exact hf13
    isplitl [HS0]
    · iexists _; isplitr; swap; · iexact HS0
      ipureintro
      exact hs0
    iexists _; isplitr; swap; · iexact HS1
    ipureintro
    rw [r8, r3, r11, r9, r4, r12, r10, r13, r16, View.read_writes_cons_put _ _ _ _ _ (off i), View.writes_nil, hs1]
    rfl

set_option maxHeartbeats 2000000 in
/-- The first point of a block of rows: the third mixer's gated rows are kept and the first slice is stored. -/
theorem run_first (c : Dev nD) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x2048x512 .bf16) (harg14 : arg14.IsWhole) (arg15 : Memref sig .tc .vmem S1024x512 .f32) (harg15 : arg15.IsWhole) (arg16 : Memref sig .tc .vmem S1024x1024 .bf16) (harg16 : arg16.IsWhole) (arg17 : Memref sig .tc .vmem S4x1024x512 .bf16) (harg17 : arg17.IsWhole)
    (hc : first i) (h2 : early i) (h3 : ¬late i)
    (x0 : Vec F S1024x512 .f32) (x1 : Vec F S1024x1024 .bf16) (x2 : Vec F S1024x1024 .bf16) (x3 : Vec F S1024x1024 .bf16) (x4 : Vec F S1024x1024 .bf16) (x5 : Vec F S1x1024 .f32) (x6 : Vec F S1024x512 .bf16) (x7 : Vec F S1024x512 .bf16) (x8 : Vec F S1024x512 .bf16) (x9 : Vec F S1x1024x512 .bf16) (x10 : Vec F S1x1024x512 .bf16) (x11 : Vec F S1x1024x512 .bf16) (x12 : Vec F S1x2048x512 .bf16) (y : Vec F S1024x512 .f32) (h : Vec F S4x1024x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare y ∗ (∃ d, owns (c : Thread nD τ) arg16 fullShare d) ∗ owns (c : Thread nD τ) arg17 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare y ∗ owns (c : Thread nD τ) arg16 fullShare (k0_pay1 x3 x5 x4) ∗ owns (c : Thread nD τ) arg17 fullShare (stored h (i 1).val (merged (k0_pay1 x3 x5 x4) x1 x2 x6 x7 x8 x9 x10 x11))) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_merge_eq_skeleton]; unfold cc0_merge_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d0, %fs0, -, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg15.eq_unread hf13; obtain rfl := harg17.eq_unread hs1
    sl_exec (disch := first | sl_exact hc | sl_exact h2 | sl_exact h3)
    sl_step
    have r8 : View.readAt (Elt F) arg8.view (Rect.unit (s := S1024x512) ![0, 0] S1024x512.size inb_S1024x512_S1024x512_0_0).toLoadRect (harg8.unread x6) = x6 :=
      (View.readAt_full _ _ _).trans hf6
    have r3 : View.readAt (Elt F) arg3.view (Rect.unit (s := S1024x1024) ![0, 0] S1024x1024.size inb_S1024x1024_S1024x1024_0_0).toLoadRect (harg3.unread x1) = x1 :=
      (View.readAt_full _ _ _).trans hf1
    have r11 : View.readAt (Elt F) arg11.view (Rect.unit (s := S1x1024x512) ![0, 0, 0] S1x1024x512.size inb_S1x1024x512_S1x1024x512_0_0_0).toLoadRect (harg11.unread x9) = x9 :=
      (View.readAt_full _ _ _).trans hf9
    have r9 : View.readAt (Elt F) arg9.view (Rect.unit (s := S1024x512) ![0, 0] S1024x512.size inb_S1024x512_S1024x512_0_0).toLoadRect (harg9.unread x7) = x7 :=
      (View.readAt_full _ _ _).trans hf7
    have r4 : View.readAt (Elt F) arg4.view (Rect.unit (s := S1024x1024) ![0, 0] S1024x1024.size inb_S1024x1024_S1024x1024_0_0).toLoadRect (harg4.unread x2) = x2 :=
      (View.readAt_full _ _ _).trans hf2
    have r12 : View.readAt (Elt F) arg12.view (Rect.unit (s := S1x1024x512) ![0, 0, 0] S1x1024x512.size inb_S1x1024x512_S1x1024x512_0_0_0).toLoadRect (harg12.unread x10) = x10 :=
      (View.readAt_full _ _ _).trans hf10
    have r10 : View.readAt (Elt F) arg10.view (Rect.unit (s := S1024x512) ![0, 0] S1024x512.size inb_S1024x512_S1024x512_0_0).toLoadRect (harg10.unread x8) = x8 :=
      (View.readAt_full _ _ _).trans hf8
    have r13 : View.readAt (Elt F) arg13.view (Rect.unit (s := S1x1024x512) ![0, 0, 0] S1x1024x512.size inb_S1x1024x512_S1x1024x512_0_0_0).toLoadRect (harg13.unread x11) = x11 :=
      (View.readAt_full _ _ _).trans hf11
    have r5 : View.readAt (Elt F) arg5.view (Rect.unit (s := S1024x1024) ![0, 0] S1024x1024.size inb_S1024x1024_S1024x1024_0_0).toLoadRect (harg5.unread x3) = x3 :=
      (View.readAt_full _ _ _).trans hf3
    have r7 : View.readAt (Elt F) arg7.view (Rect.unit (s := S1x1024) ![0, 0] S1x1024.size inb_S1x1024_S1x1024_0_0).toLoadRect (harg7.unread x5) = x5 :=
      (View.readAt_full _ _ _).trans hf5
    have r6 : View.readAt (Elt F) arg6.view (Rect.unit (s := S1024x1024) ![0, 0] S1024x1024.size inb_S1024x1024_S1024x1024_0_0).toLoadRect (harg6.unread x4) = x4 :=
      (View.readAt_full _ _ _).trans hf4
    have h16 (f) : View.read (Elt F) arg16.view (arg16.view.writes (Elt F) f (run_first.sl.HS0_1 c arg5 harg5 arg6 harg6 arg7 harg7 x3 x4 x5)) = k0_pay1 x3 x5 x4 := by
      unfold run_first.sl.HS0_1; rw [r5, r7, r6]; exact View.read_writes_full _ _ _ _ _
    have v16 : run_first.sl.v47 c arg5 harg5 arg6 harg6 arg7 harg7 arg16 x3 x4 x5 = k0_pay1 x3 x5 x4 := by
      unfold run_first.sl.v47; exact (View.readAt_full _ _ _).trans (h16 _)
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; swap; · iexact H13
      ipureintro
      exact hf13
    isplitl [HS0]
    · iexists _; isplitr; swap; · iexact HS0
      ipureintro
      exact h16 _
    iexists _; isplitr; swap; · iexact HS1
    ipureintro
    rw [r8, r3, r11, r9, r4, r12, r10, r13, v16, View.read_writes_cons_put _ _ _ _ _ (off i), View.writes_nil, hs1]
    rfl

set_option maxHeartbeats 2000000 in
/-- A point that projects: its block of the result is written from the four slices kept. -/
theorem run_late (c : Dev nD) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x2048x512 .bf16) (harg14 : arg14.IsWhole) (arg15 : Memref sig .tc .vmem S1024x512 .f32) (harg15 : arg15.IsWhole) (arg16 : Memref sig .tc .vmem S1024x1024 .bf16) (harg16 : arg16.IsWhole) (arg17 : Memref sig .tc .vmem S4x1024x512 .bf16) (harg17 : arg17.IsWhole)
    (hc : ¬first i) (h2 : ¬early i) (h3 : late i)
    (x0 : Vec F S1024x512 .f32) (x1 : Vec F S1024x1024 .bf16) (x2 : Vec F S1024x1024 .bf16) (x3 : Vec F S1024x1024 .bf16) (x4 : Vec F S1024x1024 .bf16) (x5 : Vec F S1x1024 .f32) (x6 : Vec F S1024x512 .bf16) (x7 : Vec F S1024x512 .bf16) (x8 : Vec F S1024x512 .bf16) (x9 : Vec F S1x1024x512 .bf16) (x10 : Vec F S1x1024x512 .bf16) (x11 : Vec F S1x1024x512 .bf16) (x12 : Vec F S1x2048x512 .bf16) (g : Vec F S1024x1024 .bf16) (h : Vec F S4x1024x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare g ∗ owns (c : Thread nD τ) arg17 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (out x0 h x12) ∗ owns (c : Thread nD τ) arg16 fullShare g ∗ owns (c : Thread nD τ) arg17 fullShare h) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_merge_eq_skeleton]; unfold cc0_merge_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg16.eq_unread hs0; obtain rfl := harg17.eq_unread hs1
    sl_exec (disch := first | sl_exact hc | sl_exact h2 | sl_exact h3)
    sl_step
    have r2 : View.readAt (Elt F) arg2.view (Rect.unit (s := S1024x512) ![0, 0] S1024x512.size inb_S1024x512_S1024x512_0_0).toLoadRect (harg2.unread x0) = x0 :=
      (View.readAt_full _ _ _).trans hf0
    have s0 : View.readAt (Elt F) arg17.view (Rect.unit (s := S4x1024x512) ![0, 0, 0] S1x1024x512.size inb_S4x1024x512_S1x1024x512_0_0_0).toLoadRect (harg17.unread h) = slice h 0 :=
      (View.readAt_unit _ _ _ rfl (inb4 0)).trans ((congrArg (fun z => VecWindow.window (s := S4x1024x512) z ![0, 0, 0] S1x1024x512.size (inb4 0)) hs1).trans (slice_eq h 0 (inb4 0)))
    have s1 : View.readAt (Elt F) arg17.view (Rect.unit (s := S4x1024x512) ![1, 0, 0] S1x1024x512.size inb_S4x1024x512_S1x1024x512_1_0_0).toLoadRect (harg17.unread h) = slice h 1 :=
      (View.readAt_unit _ _ _ rfl (inb4 1)).trans ((congrArg (fun z => VecWindow.window (s := S4x1024x512) z ![1, 0, 0] S1x1024x512.size (inb4 1)) hs1).trans (slice_eq h 1 (inb4 1)))
    have s2 : View.readAt (Elt F) arg17.view (Rect.unit (s := S4x1024x512) ![2, 0, 0] S1x1024x512.size inb_S4x1024x512_S1x1024x512_2_0_0).toLoadRect (harg17.unread h) = slice h 2 :=
      (View.readAt_unit _ _ _ rfl (inb4 2)).trans ((congrArg (fun z => VecWindow.window (s := S4x1024x512) z ![2, 0, 0] S1x1024x512.size (inb4 2)) hs1).trans (slice_eq h 2 (inb4 2)))
    have s3 : View.readAt (Elt F) arg17.view (Rect.unit (s := S4x1024x512) ![3, 0, 0] S1x1024x512.size inb_S4x1024x512_S1x1024x512_3_0_0).toLoadRect (harg17.unread h) = slice h 3 :=
      (View.readAt_unit _ _ _ rfl (inb4 3)).trans ((congrArg (fun z => VecWindow.window (s := S4x1024x512) z ![3, 0, 0] S1x1024x512.size (inb4 3)) hs1).trans (slice_eq h 3 (inb4 3)))
    have w0 : View.readAt (Elt F) arg14.view (Rect.unit (s := S1x2048x512) ![0, 0, 0] S1x512x512.size inb_S1x2048x512_S1x512x512_0_0_0).toLoadRect (harg14.unread x12) = piece x12 0 :=
      (View.readAt_unit _ _ _ rfl inb_S1x2048x512_S1x512x512_0_0_0).trans ((congrArg (fun z => VecWindow.window (s := S1x2048x512) z ![0, 0, 0] S1x512x512.size inb_S1x2048x512_S1x512x512_0_0_0) hf12).trans (piece_eq x12 0 inb_S1x2048x512_S1x512x512_0_0_0))
    have w1 : View.readAt (Elt F) arg14.view (Rect.unit (s := S1x2048x512) ![0, 512, 0] S1x512x512.size inb_S1x2048x512_S1x512x512_0_512_0).toLoadRect (harg14.unread x12) = piece x12 1 :=
      (View.readAt_unit _ _ _ rfl inb_S1x2048x512_S1x512x512_0_512_0).trans ((congrArg (fun z => VecWindow.window (s := S1x2048x512) z ![0, 512, 0] S1x512x512.size inb_S1x2048x512_S1x512x512_0_512_0) hf12).trans (piece_eq x12 1 inb_S1x2048x512_S1x512x512_0_512_0))
    have w2 : View.readAt (Elt F) arg14.view (Rect.unit (s := S1x2048x512) ![0, 1024, 0] S1x512x512.size inb_S1x2048x512_S1x512x512_0_1024_0).toLoadRect (harg14.unread x12) = piece x12 2 :=
      (View.readAt_unit _ _ _ rfl inb_S1x2048x512_S1x512x512_0_1024_0).trans ((congrArg (fun z => VecWindow.window (s := S1x2048x512) z ![0, 1024, 0] S1x512x512.size inb_S1x2048x512_S1x512x512_0_1024_0) hf12).trans (piece_eq x12 2 inb_S1x2048x512_S1x512x512_0_1024_0))
    have w3 : View.readAt (Elt F) arg14.view (Rect.unit (s := S1x2048x512) ![0, 1536, 0] S1x512x512.size inb_S1x2048x512_S1x512x512_0_1536_0).toLoadRect (harg14.unread x12) = piece x12 3 :=
      (View.readAt_unit _ _ _ rfl inb_S1x2048x512_S1x512x512_0_1536_0).trans ((congrArg (fun z => VecWindow.window (s := S1x2048x512) z ![0, 1536, 0] S1x512x512.size inb_S1x2048x512_S1x512x512_0_1536_0) hf12).trans (piece_eq x12 3 inb_S1x2048x512_S1x512x512_0_1536_0))
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; swap; · iexact H13
      ipureintro
      rw [r2, s0, s1, s2, s3, w0, w1, w2, w3]; exact View.read_writes_full _ _ _ _ _
    isplitl [HS0]
    · iexists _; isplitr; swap; · iexact HS0
      ipureintro
      exact hs0
    iexists _; isplitr; swap; · iexact HS1
    ipureintro
    exact hs1

end Cert.Merge

end
-- ==== Proof.MergeFrame.lean ====
/- The merge's whole run: over the eight points of a block of 1024 rows the third mixer's gated rows are made once, then four slices of merged columns, then four blocks of the result. -/
module

public import proofs.«01_k».proof.Proof.MergeBody
public import Idealize.ShloMosaic.Lib.Claim
public import Idealize.ShloMosaic.Lib.Pointwise
public import Idealize.ShloMosaic.Lib.Pipeline.TableIdle

@[expose] public section

set_option maxRecDepth 16384

noncomputable section

namespace Cert.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the windows are staged in at a grid point. -/
abbrev stg0 (t : Fin cfg0.N) : Memref sig .tc .vmem S1024x512 .f32 := win0_0.stage (cfg0.slots t 0)
abbrev stg1 (t : Fin cfg0.N) : Memref sig .tc .vmem S1024x1024 .bf16 := win0_1.stage (cfg0.slots t 1)
abbrev stg2 (t : Fin cfg0.N) : Memref sig .tc .vmem S1024x1024 .bf16 := win0_2.stage (cfg0.slots t 2)
abbrev stg3 (t : Fin cfg0.N) : Memref sig .tc .vmem S1024x1024 .bf16 := win0_3.stage (cfg0.slots t 3)
abbrev stg4 (t : Fin cfg0.N) : Memref sig .tc .vmem S1024x1024 .bf16 := win0_4.stage (cfg0.slots t 4)
abbrev stg5 (t : Fin cfg0.N) : Memref sig .tc .vmem S1x1024 .f32 := win0_5.stage (cfg0.slots t 5)
abbrev stg6 (t : Fin cfg0.N) : Memref sig .tc .vmem S1024x512 .bf16 := win0_6.stage (cfg0.slots t 6)
abbrev stg7 (t : Fin cfg0.N) : Memref sig .tc .vmem S1024x512 .bf16 := win0_7.stage (cfg0.slots t 7)
abbrev stg8 (t : Fin cfg0.N) : Memref sig .tc .vmem S1024x512 .bf16 := win0_8.stage (cfg0.slots t 8)
abbrev stg9 (t : Fin cfg0.N) : Memref sig .tc .vmem S1x1024x512 .bf16 := win0_9.stage (cfg0.slots t 9)
abbrev stg10 (t : Fin cfg0.N) : Memref sig .tc .vmem S1x1024x512 .bf16 := win0_10.stage (cfg0.slots t 10)
abbrev stg11 (t : Fin cfg0.N) : Memref sig .tc .vmem S1x1024x512 .bf16 := win0_11.stage (cfg0.slots t 11)
abbrev stg12 (t : Fin cfg0.N) : Memref sig .tc .vmem S1x2048x512 .bf16 := win0_12.stage (cfg0.slots t 12)
abbrev stg13 (t : Fin cfg0.N) : Memref sig .tc .vmem S1024x512 .f32 := win0_13.stage (cfg0.slots t 13)

/-- The kernel's own two buffers: the third mixer's gated rows, and the merged slices. -/
abbrev scr0 : Memref sig .tc .vmem S1024x1024 .bf16 := Memref.whole cc0_scratch0
abbrev scr1 : Memref sig .tc .vmem S4x1024x512 .bf16 := Memref.whole cc0_scratch1

/-- At the launch they hold anything. -/
theorem rest_eq (c : Dev nD) :
    (Pipeline.ΦA spec0 c : sProp 𝕄) = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

theorem lt_N (t : Fin cfg0.N) : t.val < 128 := lt_of_lt_of_eq t.isLt N_0

/-- The second grid coordinate of a point. -/
theorem step (t : Fin cfg0.N) : (grid0.coords t 1).val = t.val % 8 := by
  have e1 : (grid0.coords t 1).val = t.val / 1 % 8 := Pipeline.Grid.coords_val t 1 (by decide) rfl
  rw [e1, Nat.div_one]

/-- Point `j` of the eight points of the block of rows of point `t`. -/
def pt (t : Fin cfg0.N) (j : Fin 4) : Fin cfg0.N := ⟨t.val / 8 * 8 + j.val, lt_of_lt_of_eq (by have := lt_N t; omega : _ < 128) N_0.symm⟩

theorem pt_same (t t' : Fin cfg0.N) (h : t.val / 8 = t'.val / 8) : pt t = pt t' :=
  funext fun j => Fin.ext (by show t.val / 8 * 8 + j.val = t'.val / 8 * 8 + j.val; rw [h])

theorem pt_self (t : Fin cfg0.N) (j : Fin 4) (h : t.val % 8 = j.val) : pt t j = t :=
  Fin.ext (by show t.val / 8 * 8 + j.val = t.val; omega)

/-- The third mixer's rows of the block of point `t`, normalized and gated. -/
def gated (c : Dev nD) (t : Fin cfg0.N) : Vec F S1024x1024 .bf16 :=
  k0_pay1 (F := F) (iblk m c 3 (pt t 0)) (iblk m c 5 (pt t 0)) (iblk m c 4 (pt t 0))

/-- Slice `j` of the merged rows of the block of point `t`. -/
def part (c : Dev nD) (t : Fin cfg0.N) (j : Fin 4) : Vec F S1x1024x512 .bf16 :=
  merged (F := F) (gated m c t) (iblk m c 1 (pt t j)) (iblk m c 2 (pt t j)) (iblk m c 6 (pt t j)) (iblk m c 7 (pt t j)) (iblk m c 8 (pt t j))
    (iblk m c 9 (pt t j)) (iblk m c 10 (pt t j)) (iblk m c 11 (pt t j))

/-- All four. -/
def whole (c : Dev nD) (t : Fin cfg0.N) : Vec F S4x1024x512 .bf16 := fun y => part m c t (y 0) (ix3 0 (y 1) (y 2))

theorem slice_whole (c : Dev nD) (t : Fin cfg0.N) (j : Fin 4) : slice (whole m c t) j = part m c t j := by
  funext y
  have hy : (ix3 0 (y 1) (y 2) : S1x1024x512.Idx) = y := by
    have h0 : (y 0).val < 1 := (y 0).isLt
    funext a
    apply Fin.ext
    fin_cases a
    · show 0 = (y 0).val
      omega
    · rfl
    · rfl
  show part m c t j (ix3 0 (y 1) (y 2)) = part m c t j y
  rw [hy]

/-- They are the same for the eight points of a block of rows. -/
theorem gated_same (c : Dev nD) (t t' : Fin cfg0.N) (h : t.val / 8 = t'.val / 8) : gated m c t = gated m c t' := by
  unfold gated
  rw [pt_same t t' h]

theorem part_same (c : Dev nD) (t t' : Fin cfg0.N) (h : t.val / 8 = t'.val / 8) (j : Fin 4) : part m c t j = part m c t' j := by
  unfold part
  rw [gated_same m c t t' h, pt_same t t' h]

/-- The first `n` slices of the buffer are there. -/
def there (c : Dev nD) (t : Fin cfg0.N) (n : ℕ) (h : Vec F S4x1024x512 .bf16) : Prop := ∀ j : Fin 4, j.val < n → slice h j = part m c t j

/-- Storing a point's slice adds it to those that are there. -/
theorem there_stored (c : Dev nD) (t : Fin cfg0.N) (h4 : t.val % 8 < 4) (h : Vec F S4x1024x512 .bf16) (hp : there m c t (t.val % 8) h) :
    there m c t (t.val % 8 + 1) (stored h (grid0.coords t 1).val (merged (F := F) (gated m c t) (iblk m c 1 t) (iblk m c 2 t) (iblk m c 6 t) (iblk m c 7 t) (iblk m c 8 t)
      (iblk m c 9 t) (iblk m c 10 t) (iblk m c 11 t))) := by
  intro j hj
  rw [step]
  by_cases e : t.val % 8 = j.val
  · rw [e, slice_stored_same]
    unfold part
    rw [pt_self t j e]
  · rw [slice_stored_other _ j _ e]
    exact hp j (by omega)

/-- With all four there the block of the result is made from them. -/
theorem out_there (c : Dev nD) (t : Fin cfg0.N) (n : ℕ) (hn : 4 ≤ n) (h : Vec F S4x1024x512 .bf16) (hp : there m c t n h)
    (x : Vec F S1024x512 .f32) (w : Vec F S1x2048x512 .bf16) : out (F := F) x h w = out x (whole m c t) w := by
  unfold out
  simp only [slice_whole]
  rw [hp 0 (by show 0 < n; omega), hp 1 (by show 1 < n; omega), hp 2 (by show 2 < n; omega), hp 3 (by show 3 < n; omega)]

/-- Between two points the buffers hold the gated rows, and the slices stored so far. -/
def kept (c : Dev nD) : (n : ℕ) → n ≤ cfg0.N → sProp 𝕄
  | 0, _ => Pipeline.ΦA spec0 c
  | n + 1, h => iprop(owns (c : Thread nD τ) scr0 fullShare (gated m c ⟨n, h⟩)
      ∗ (∃ d, ⌜there m c ⟨n, h⟩ (n % 8 + 1) d⌝ ∗ owns (c : Thread nD τ) scr1 fullShare d) ∗ (∃ r, prngReg c r))

theorem kept_zero (c : Dev nD) (n : ℕ) (h : n ≤ cfg0.N) (hz : n = 0) : kept m c n h = (Pipeline.ΦA spec0 c : sProp 𝕄) := by
  subst hz; rfl

theorem kept_pos (c : Dev nD) (n : ℕ) (h : n ≤ cfg0.N) (hz : n ≠ 0) :
    kept m c n h = (iprop(owns (c : Thread nD τ) scr0 fullShare (gated m c ⟨n - 1, by omega⟩)
      ∗ (∃ d, ⌜there m c ⟨n - 1, by omega⟩ ((n - 1) % 8 + 1) d⌝ ∗ owns (c : Thread nD τ) scr1 fullShare d) ∗ (∃ r, prngReg c r)) : sProp 𝕄) := by
  obtain ⟨k, rfl⟩ := Nat.exists_eq_succ_of_ne_zero hz; rfl

/-- Whatever they hold, they are the buffers at some contents. -/
theorem kept_any (c : Dev nD) (n : ℕ) (h : n ≤ cfg0.N) :
    kept m c n h ⊢ (iprop(((∃ d, owns (c : Thread nD τ) scr0 fullShare d) ∗ (∃ d, owns (c : Thread nD τ) scr1 fullShare d)) ∗ (∃ r, prngReg c r)) : sProp 𝕄) := by
  by_cases hz : n = 0
  · rw [kept_zero m c n h hz, rest_eq]
  · rw [kept_pos m c n h hz]
    iintro ⟨HS, ⟨%d, -, HT⟩, Hg⟩
    isplitl [HS HT]
    · isplitl [HS]
      · iexists _; iexact HS
      iexists _; iexact HT
    iexact Hg

/-- The run's data: inputs stay at their blocks, the result's block is made from the merged slices. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out (F := F) (iblk m c 0 t) (whole m c t) (iblk m c 12 t)
  Φ t := kept m c t.val (Nat.le_of_lt_succ t.isLt)
  q w := Pipeline.shareOf spec0 w
  owed _ := 0

/-- The data's arrays are those the region finds. -/
theorem A_eq (c : Dev nD) (w : Fin cfg0.W) : (dats m 0 c).A w = V m c (Pipeline.arrRef spec0 w) := by dsimp only [dats]

/-- What the body leaves in each window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = out (F := F) (iblk m c 0 t) (whole m c t) (iblk m c 12 t) := by dsimp only [dats]

/-- What each input window holds before the body: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- The result's window is left alone at the first four of each eight points, and not written back there. -/
theorem idle_13 (t : Fin cfg0.N) (h : t.val % 8 < 4) : cfg0.idle 13 (cfg0.grid.coords t) = true := by
  have hs : ¬late (grid0.coords t) := fun e => by have := (late_iff t).mp e; omega
  show (!(k0_cond3 (grid0.coords t) == 1#1)) = true
  rw [Bool.not_eq_true', beq_eq_false_iff_ne]
  exact hs
theorem live_13 (t : Fin cfg0.N) (h : 4 ≤ t.val % 8) : cfg0.idle 13 (cfg0.grid.coords t) = false := by
  have hs : late (grid0.coords t) := (late_iff t).mpr h
  show (!(k0_cond3 (grid0.coords t) == 1#1)) = false
  rw [Bool.not_eq_false', beq_iff_eq]
  exact hs
theorem flush_13 : ∀ t : Fin cfg0.N, (cfg0.win 13).flush t = true ↔ 4 ≤ t.val % 8 :=
  (by decide +kernel : ∀ t : Fin grid0.N, _)
theorem noflush_13 (t : Fin cfg0.N) (h : t.val % 8 < 4) : (cfg0.win 13).flush t = false :=
  Bool.eq_false_iff.mpr fun e => by have := (flush_13 t).mp e; omega

/-- What the body leaves of the result's window. -/
def left13 (c : Dev nD) (t : Fin cfg0.N) : sProp 𝕄 :=
  match cfg0.idle 13 (cfg0.grid.coords t) with
  | true => match (cfg0.win 13).flush t with
    | false => iprop(∃ d, owns (c : Thread nD τ) (stg13 t) fullShare ((dats m 0 c).before 13 t d))
    | true => owns (c : Thread nD τ) (stg13 t) fullShare ((dats m 0 c).after 13 t)
  | false => owns (c : Thread nD τ) (stg13 t) fullShare ((dats m 0 c).after 13 t)

/-- At a point that does not write it the buffer is handed back as it was found. -/
theorem left13_idle (c : Dev nD) (t : Fin cfg0.N) (h : t.val % 8 < 4) (d) :
    owns (c : Thread nD τ) (stg13 t) fullShare ((dats m 0 c).before 13 t d) ⊢ (left13 m c t : sProp 𝕄) := by
  unfold left13
  rw [idle_13 t h]
  dsimp only
  rw [noflush_13 t h]
  dsimp only
  iintro H
  iexists d
  iexact H

theorem left13_live (c : Dev nD) (t : Fin cfg0.N) (h : 4 ≤ t.val % 8) :
    (left13 m c t : sProp 𝕄) = owns (c : Thread nD τ) (stg13 t) fullShare (out (F := F) (iblk m c 0 t) (whole m c t) (iblk m c 12 t)) := by
  unfold left13
  rw [live_13 t h]
  dsimp only
  rw [after_13]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d)))

/-- and what it leaves. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ left13 m c t)

set_option maxHeartbeats 3200000 in
/-- The body does so at every grid point: the first of its block of rows, the next three, and the last four. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12]
  rw [show (dats m 0 c).Φ t.succ = iprop(owns (c : Thread nD τ) scr0 fullShare (gated m c t)
      ∗ (∃ d, ⌜there m c t (t.val % 8 + 1) d⌝ ∗ owns (c : Thread nD τ) scr1 fullShare d) ∗ (∃ r, prngReg c r)) from rfl,
    show (dats m 0 c).Φ t.castSucc = kept m c t.val (Nat.le_of_lt t.isLt) from rfl]
  have hN := lt_N t
  by_cases h0 : t.val % 8 = 0
  · have h4 : t.val % 8 < 4 := by omega
    have hg : gated m c t = k0_pay1 (F := F) (iblk m c 3 t) (iblk m c 5 t) (iblk m c 4 t) := by
      unfold gated
      rw [pt_self t 0 (by rw [h0]; rfl)]
    iintro ⟨HK, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    ihave HK' := (kept_any m c t.val (Nat.le_of_lt t.isLt)) $$ HK
    icases HK' with ⟨⟨HS, ⟨%d, HT⟩⟩, Hg⟩
    have hst := there_stored m c t h4 d (fun j hj => by omega)
    rw [hg] at hst ⊢
    iapply ((run_first c (grid0.coords t) _ _ _ _ _ _ _ _ _ _ _ _ _ _ _ _ _ _ _ _ _ _ _ _ _ _ _ _ _ _ _ _ ((first_iff t).mpr h0) ((early_iff t).mpr h4) (fun e => by have := (late_iff t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    isplitl [HT]; · iexact HT
    iintro ⟨H0, H1, H2, H3, H4, H5, H6, H7, H8, H9, H10, H11, H12, H13, HS, HT⟩
    isplitl [HS HT Hg]
    · isplitl [HS]
      · iexact HS
      isplitl [HT]
      · iexists _; isplitr; swap; · iexact HT
        ipureintro
        exact hst
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iapply (left13_idle m c t h4 d13)
    iexact H13
  have hz : t.val ≠ 0 := by omega
  have hd : (t.val - 1) / 8 = t.val / 8 := by omega
  rw [kept_pos m c t.val _ hz, gated_same m c ⟨t.val - 1, by omega⟩ t hd]
  iintro ⟨⟨HS, ⟨%d, %hd1, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hth : there m c t ((t.val - 1) % 8 + 1) d := fun j hj => (hd1 j hj).trans (part_same m c _ t hd j)
  by_cases h4 : t.val % 8 < 4
  · have hst := there_stored m c t h4 d (fun j hj => hth j (by omega))
    iapply ((run_mid c (grid0.coords t) _ _ _ _ _ _ _ _ _ _ _ _ _ _ _ _ _ _ _ _ _ _ _ _ _ _ _ _ _ _ _ _ (fun e => h0 ((first_iff t).mp e)) ((early_iff t).mpr h4) (fun e => by have := (late_iff t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) (gated m c t) d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    isplitl [HT]; · iexact HT
    iintro ⟨H0, H1, H2, H3, H4, H5, H6, H7, H8, H9, H10, H11, H12, H13, HS, HT⟩
    isplitl [HS HT Hg]
    · isplitl [HS]
      · iexact HS
      isplitl [HT]
      · iexists _; isplitr; swap; · iexact HT
        ipureintro
        exact hst
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iapply (left13_idle m c t h4 d13)
    iexact H13
  · have ho := out_there m c t _ (by omega) d hth (iblk m c 0 t) (iblk m c 12 t)
    rw [left13_live m c t (by omega), ← ho]
    iapply ((run_late c (grid0.coords t) _ _ _ _ _ _ _ _ _ _ _ _ _ _ _ _ _ _ _ _ _ _ _ _ _ _ _ _ _ _ _ _ (fun e => h0 ((first_iff t).mp e)) (fun e => h4 ((early_iff t).mp e)) ((late_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (gated m c t) d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS]; · iexact HS
    isplitl [HT]; · iexact HT
    iintro ⟨H0, H1, H2, H3, H4, H5, H6, H7, H8, H9, H10, H11, H12, H13, HS, HT⟩
    isplitl [HS HT Hg]
    · isplitl [HS]
      · iexact HS
      isplitl [HT]
      · iexists _; isplitr; swap; · iexact HT
        ipureintro
        exact fun j hj => hth j (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body that the pipeline calls at a point. -/
theorem called (t : Fin cfg0.N) : defs₀ (F := F) .tc cfg0.body (cfg0.bodyArgs t (cfg0.slots t)) = bodyAt0 t := by
  unfold defs₀; rw [Defs.onTc_tc]

/-- So the pipeline's body obligation holds. -/
theorem obligation (c : Dev nD) : BodyObligation (dats (F := F) m 0 c) (defs₀ (F := F)) Variants.none () Set.univ := fun t => by
  rw [bigSep_W0, bigSep_W0, called]
  exact triple_restated (sound_body m c t) rfl .rfl fun _ => .rfl

/-- The launch hands the region the buffers at anything, -/
theorem hin (c : Dev nD) : Pipeline.ΦA spec0 c ⊢ (dats m 0 c).Φ 0 := by
  rw [show (dats m 0 c).Φ 0 = (Pipeline.ΦA spec0 c : sProp 𝕄) from rfl]

/-- and is given them back at anything. -/
theorem hout (c : Dev nD) : (dats m 0 c).Φ (Fin.last cfg0.N) ⊢ Pipeline.ΦA spec0 c := by
  rw [rest_eq]
  rw [show (dats m 0 c).Φ (Fin.last cfg0.N) = kept m c cfg0.N (Nat.le_refl _) from rfl]
  exact kept_any m c _ _

set_option backward.isDefEq.respectTransparency.types false in
/-- The run, with every counter of the machine at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

/-- The run. -/
theorem run_main : θ_run defs (onTc (τ := τ) (main (F := F))) (s₀ m ρ) (Pipeline.FramePost cfgs (dats m) 0 (V m)) :=
  (θ_run defs _ _).mono (fun _ h => h.1) (run_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

end Cert.Merge

end
-- ==== Proof.MergePay.lean ====
/- The merge's arithmetic at an index: the gated rows of the third mixer, an entry of a merged slice, and an entry of the result. -/
module

public import proofs.«01_k».proof.Proof.MergeFrame

@[expose] public section

set_option maxRecDepth 16384

noncomputable section

namespace Cert.Merge

open Idealize.ShloMosaic Idealize.ShloMosaic.TcCoe Idealize.SL.Sem
open Cert.Kernel5Ideal Cert.Kernel5Ideal.Gen

/-- The sigmoid. -/
def sg (z : EReal) : EReal := Ideal.div 1 (1 + Ideal.exp (-z))

/-- The reciprocal root mean square of a row of 1024. -/
def rms (f : Fin 1024 → EReal) : EReal :=
  Ideal.rsqrt (Ideal.div (∑ x, f x * f x) (Ideal.ofBits .f32 1149239296#32) + Ideal.ofBits .f32 897988541#32)

/-- The third mixer's rows, normalized and times the silu of their gate, at an index. -/
theorem pay1 (o : Vec Ideal S1024x1024 .bf16) (h : Vec Ideal S1x1024 .f32) (g : Vec Ideal S1024x1024 .bf16) (r d : Fin 1024) :
    k0_pay1 (F := Ideal) o h g (ix2 r d)
      = o (ix2 r d) * rms (fun e => o (ix2 r e)) * h (ix2 0 d) * (g (ix2 r d) * sg (g (ix2 r d))) := by
  unfold rms sg
  pointwise [k0_pay1]
  simp only [zero_sub]

/-- An entry of a merged slice. -/
theorem pay2 (yc ya yb : Vec Ideal S1024x1024 .bf16) (ga gb gc : Vec Ideal S1024x512 .bf16) (pa pb pc : Vec Ideal S1x1024x512 .bf16)
    (r : Fin 1024) (k : Fin 512) :
    merged (F := Ideal) yc ya yb ga gb gc pa pb pc (ix3 0 r k)
      = sg (ga (ix2 r k)) * (∑ d : Fin 1024, ya (ix2 r d) * pa (ix3 0 d k))
        + sg (gb (ix2 r k)) * (∑ d : Fin 1024, yb (ix2 r d) * pb (ix3 0 d k))
        + sg (gc (ix2 r k)) * (∑ d : Fin 1024, yc (ix2 r d) * pc (ix3 0 d k)) := by
  unfold merged sg
  pointwise [k0_pay2, k0_pay4, k0_pay5]
  simp only [zero_sub]

/-- An entry of the result: four slices' products are the whole product. -/
theorem pay3 (x : Vec Ideal S1024x512 .f32) (h : Vec Ideal S4x1024x512 .bf16) (w : Vec Ideal S1x2048x512 .bf16) (r : Fin 1024) (k : Fin 512)
    (f : Fin 2048 → EReal) (hf : ∀ (j : Fin 4) (l : Fin 512), h (ix3 j r l) * w (ix3 0 ⟨512 * j.val + l.val, by omega⟩ k) = f ⟨j.val * 512 + l.val, by omega⟩) :
    out (F := Ideal) x h w (ix2 r k) = x (ix2 r k) + ∑ d : Fin 2048, f d := by
  have e : ∑ d : Fin 2048, f d = ∑ j : Fin 4, ∑ l : Fin 512, h (ix3 j r l) * w (ix3 0 ⟨512 * j.val + l.val, by omega⟩ k) :=
    (Fin.sum_mul_add_congr fun j l hl => hf j l).symm
  rw [e, Fin.sum_univ_four]
  unfold out
  have p : ∀ (x : Vec Ideal S1024x512 .f32) (h0 h1 h2 h3 : Vec Ideal S1x1024x512 .bf16) (w0 w1 w2 w3 : Vec Ideal S1x512x512 .bf16),
      k0_pay3 (F := Ideal) x h0 w0 h1 w1 h2 w2 h3 w3 (ix2 r k)
        = x (ix2 r k) + (∑ l : Fin 512, h0 (ix3 0 r l) * w0 (ix3 0 l k)) + (∑ l : Fin 512, h1 (ix3 0 r l) * w1 (ix3 0 l k))
          + (∑ l : Fin 512, h2 (ix3 0 r l) * w2 (ix3 0 l k)) + (∑ l : Fin 512, h3 (ix3 0 r l) * w3 (ix3 0 l k)) := by
    intro x h0 h1 h2 h3 w0 w1 w2 w3
    pointwise [k0_pay3]
  rw [p]
  simp only [add_assoc]
  rfl

end Cert.Merge
-- ==== Proof.MergeValue.lean ====
/- The merge's result array, by a kernel run. -/
module

public import proofs.«01_k».proof.Proof.MergePay

@[expose] public section

set_option maxRecDepth 16384

noncomputable section

namespace Cert.Merge

open Idealize.ShloMosaic Idealize.ShloMosaic.TcCoe Idealize.SL.Sem
open Cert.Kernel5Ideal Cert.Kernel5Ideal.Gen

/-- Entry `(r, d)` of the third mixer's rows, normalized and times the silu of their gate. -/
def third (U : Vec Ideal S16384x17408 .bf16) (O : Vec Ideal S16384x1024 .bf16) (H : Vec Ideal S1x1024 .f32) (r : Fin 16384) (d : Fin 1024) : EReal :=
  O (ix2 r d) * rms (fun e => O (ix2 r e)) * H (ix2 0 d)
    * (U (ix2 r ⟨10240 + d.val, by omega⟩) * sg (U (ix2 r ⟨10240 + d.val, by omega⟩)))

/-- Entry `(r, e)` of the merged rows: the three mixers' rows, projected, each times its gate, added. -/
def mix (U : Vec Ideal S16384x17408 .bf16) (YA YB O : Vec Ideal S16384x1024 .bf16) (H : Vec Ideal S1x1024 .f32)
    (PA PB PC : Vec Ideal S2x1024x2048 .bf16) (r : Fin 16384) (e : Fin 2048) : EReal :=
  sg (U (ix2 r ⟨11264 + e.val, by omega⟩)) * (∑ d : Fin 1024, YA (ix2 r d) * PA (ix3 0 d e))
    + sg (U (ix2 r ⟨13312 + e.val, by omega⟩)) * (∑ d : Fin 1024, YB (ix2 r d) * PB (ix3 0 d e))
    + sg (U (ix2 r ⟨15360 + e.val, by omega⟩)) * (∑ d : Fin 1024, third U O H r d * PC (ix3 0 d e))

/-- The result: the input plus the merged rows, projected. -/
def M (X : Vec Ideal S16384x2048 .f32) (U : Vec Ideal S16384x17408 .bf16) (YA YB O : Vec Ideal S16384x1024 .bf16) (H : Vec Ideal S1x1024 .f32)
    (PA PB PC : Vec Ideal S2x1024x2048 .bf16) (W : Vec Ideal S2x2048x2048 .bf16) : Vec Ideal S16384x2048 .f32 :=
  fun j => X (ix2 (j 0) (j 1)) + ∑ d : Fin 2048, mix U YA YB O H PA PB PC (j 0) d * W (ix3 0 d (j 1))

variable (m : (ℓ : Loc nD τ sig) → Buf (Elt Ideal) ℓ)

/-- Device `c`'s arguments as arrays. -/
abbrev aX (c : Dev nD) : Vec Ideal S16384x2048 .f32 := m ((c : Thread nD τ).loc main_arg0)
abbrev aU (c : Dev nD) : Vec Ideal S16384x17408 .bf16 := m ((c : Thread nD τ).loc main_arg1)
abbrev aYA (c : Dev nD) : Vec Ideal S16384x1024 .bf16 := m ((c : Thread nD τ).loc main_arg2)
abbrev aYB (c : Dev nD) : Vec Ideal S16384x1024 .bf16 := m ((c : Thread nD τ).loc main_arg3)
abbrev aO (c : Dev nD) : Vec Ideal S16384x1024 .bf16 := m ((c : Thread nD τ).loc main_arg4)
abbrev aH (c : Dev nD) : Vec Ideal S1x1024 .f32 := m ((c : Thread nD τ).loc main_arg5)
abbrev aPA (c : Dev nD) : Vec Ideal S2x1024x2048 .bf16 := m ((c : Thread nD τ).loc main_arg6)
abbrev aPB (c : Dev nD) : Vec Ideal S2x1024x2048 .bf16 := m ((c : Thread nD τ).loc main_arg7)
abbrev aPC (c : Dev nD) : Vec Ideal S2x1024x2048 .bf16 := m ((c : Thread nD τ).loc main_arg8)
abbrev aW (c : Dev nD) : Vec Ideal S2x2048x2048 .bf16 := m ((c : Thread nD τ).loc main_arg9)

/-- Where each window's block lies at each point. -/
theorem idx : ∀ t : Fin cfg0.N, win0_0.index t = ![t.val / 8, t.val % 8 - 4] ∧ win0_1.index t = ![t.val / 8, 0]
    ∧ win0_2.index t = ![t.val / 8, 0] ∧ win0_3.index t = ![t.val / 8, 0] ∧ win0_4.index t = ![t.val / 8, 10] ∧ win0_5.index t = ![0, 0]
    ∧ win0_6.index t = ![t.val / 8, 22 + min (t.val % 8) 3] ∧ win0_7.index t = ![t.val / 8, 26 + min (t.val % 8) 3]
    ∧ win0_8.index t = ![t.val / 8, 30 + min (t.val % 8) 3] ∧ win0_9.index t = ![0, 0, min (t.val % 8) 3]
    ∧ win0_10.index t = ![0, 0, min (t.val % 8) 3] ∧ win0_11.index t = ![0, 0, min (t.val % 8) 3]
    ∧ win0_12.index t = ![0, 0, t.val % 8 - 4] ∧ win0_13.index t = ![t.val / 8, t.val % 8 - 4] :=
  (by decide +kernel : ∀ t : Fin grid0.N, _)

/-- Row `r` of the block of point `t`, as a row of the arrays. -/
def row (t : Fin cfg0.N) (r : Fin 1024) : Fin 16384 := ⟨t.val / 8 * 1024 + r.val, by have := lt_N t; omega⟩

/-- Column `k` of the block a point of the last four projects onto. -/
def col (t : Fin cfg0.N) (k : Fin 512) : Fin 2048 := ⟨(t.val % 8 - 4) * 512 + k.val, by omega⟩

/-- Column `k` of the slice a point of the first four merges. -/
def cut (t : Fin cfg0.N) (k : Fin 512) : Fin 2048 := ⟨min (t.val % 8) 3 * 512 + k.val, by omega⟩

/-- The blocks the windows are on, entry by entry. -/
theorem blk0 (c : Dev nD) (t : Fin cfg0.N) (r : Fin 1024) (k : Fin 512) :
    (iblk m c 0 t : Vec Ideal S1024x512 .f32) (ix2 r k) = aX m c (ix2 (row t r) (col t k)) := by
  unfold row col
  blk_point [iblk, V, idx t]

theorem blk1 (c : Dev nD) (t : Fin cfg0.N) (r d : Fin 1024) :
    (iblk m c 1 t : Vec Ideal S1024x1024 .bf16) (ix2 r d) = aYA m c (ix2 (row t r) d) := by
  unfold row
  blk_point [iblk, V, idx t]

theorem blk2 (c : Dev nD) (t : Fin cfg0.N) (r d : Fin 1024) :
    (iblk m c 2 t : Vec Ideal S1024x1024 .bf16) (ix2 r d) = aYB m c (ix2 (row t r) d) := by
  unfold row
  blk_point [iblk, V, idx t]

theorem blk3 (c : Dev nD) (t : Fin cfg0.N) (r d : Fin 1024) :
    (iblk m c 3 t : Vec Ideal S1024x1024 .bf16) (ix2 r d) = aO m c (ix2 (row t r) d) := by
  unfold row
  blk_point [iblk, V, idx t]

theorem blk4 (c : Dev nD) (t : Fin cfg0.N) (r d : Fin 1024) :
    (iblk m c 4 t : Vec Ideal S1024x1024 .bf16) (ix2 r d) = aU m c (ix2 (row t r) ⟨10240 + d.val, by omega⟩) := by
  unfold row
  blk_point [iblk, V, idx t]

theorem blk5 (c : Dev nD) (t : Fin cfg0.N) (d : Fin 1024) :
    (iblk m c 5 t : Vec Ideal S1x1024 .f32) (ix2 0 d) = aH m c (ix2 0 d) := by
  blk_point [iblk, V, idx t]

theorem blk6 (c : Dev nD) (t : Fin cfg0.N) (r : Fin 1024) (k : Fin 512) :
    (iblk m c 6 t : Vec Ideal S1024x512 .bf16) (ix2 r k) = aU m c (ix2 (row t r) ⟨11264 + (cut t k).val, by omega⟩) := by
  unfold row cut
  blk_point [iblk, V, idx t]

theorem blk7 (c : Dev nD) (t : Fin cfg0.N) (r : Fin 1024) (k : Fin 512) :
    (iblk m c 7 t : Vec Ideal S1024x512 .bf16) (ix2 r k) = aU m c (ix2 (row t r) ⟨13312 + (cut t k).val, by omega⟩) := by
  unfold row cut
  blk_point [iblk, V, idx t]

theorem blk8 (c : Dev nD) (t : Fin cfg0.N) (r : Fin 1024) (k : Fin 512) :
    (iblk m c 8 t : Vec Ideal S1024x512 .bf16) (ix2 r k) = aU m c (ix2 (row t r) ⟨15360 + (cut t k).val, by omega⟩) := by
  unfold row cut
  blk_point [iblk, V, idx t]

theorem blk9 (c : Dev nD) (t : Fin cfg0.N) (d : Fin 1024) (k : Fin 512) :
    (iblk m c 9 t : Vec Ideal S1x1024x512 .bf16) (ix3 0 d k) = aPA m c (ix3 0 d (cut t k)) := by
  unfold cut
  blk_point [iblk, V, idx t]

theorem blk10 (c : Dev nD) (t : Fin cfg0.N) (d : Fin 1024) (k : Fin 512) :
    (iblk m c 10 t : Vec Ideal S1x1024x512 .bf16) (ix3 0 d k) = aPB m c (ix3 0 d (cut t k)) := by
  unfold cut
  blk_point [iblk, V, idx t]

theorem blk11 (c : Dev nD) (t : Fin cfg0.N) (d : Fin 1024) (k : Fin 512) :
    (iblk m c 11 t : Vec Ideal S1x1024x512 .bf16) (ix3 0 d k) = aPC m c (ix3 0 d (cut t k)) := by
  unfold cut
  blk_point [iblk, V, idx t]

theorem blk12 (c : Dev nD) (t : Fin cfg0.N) (d : Fin 2048) (k : Fin 512) :
    (iblk m c 12 t : Vec Ideal S1x2048x512 .bf16) (ix3 0 d k) = aW m c (ix3 0 d (col t k)) := by
  unfold col
  blk_point [iblk, V, idx t]

/-- The points of a block of rows are on the same rows. -/
theorem row_pt (t : Fin cfg0.N) (j : Fin 4) (r : Fin 1024) : row (pt t j) r = row t r := by
  apply Fin.ext
  show (t.val / 8 * 8 + j.val) / 8 * 1024 + r.val = t.val / 8 * 1024 + r.val
  omega

/-- Slice `j` is columns `512 j` to `512 j + 511`. -/
theorem cut_pt (t : Fin cfg0.N) (j : Fin 4) (k : Fin 512) : cut (pt t j) k = ⟨j.val * 512 + k.val, by omega⟩ := by
  apply Fin.ext
  show min ((t.val / 8 * 8 + j.val) % 8) 3 * 512 + k.val = j.val * 512 + k.val
  omega

/-- The gated rows, entry by entry. -/
theorem gated_eq (c : Dev nD) (t : Fin cfg0.N) (r d : Fin 1024) :
    gated m c t (ix2 r d) = third (aU m c) (aO m c) (aH m c) (row t r) d := by
  unfold gated third
  rw [pay1]
  simp only [blk3, blk4, blk5, row_pt]

/-- A merged slice, entry by entry. -/
theorem part_eq (c : Dev nD) (t : Fin cfg0.N) (j : Fin 4) (r : Fin 1024) (k : Fin 512) :
    part m c t j (ix3 0 r k)
      = mix (aU m c) (aYA m c) (aYB m c) (aO m c) (aH m c) (aPA m c) (aPB m c) (aPC m c) (row t r) ⟨j.val * 512 + k.val, by omega⟩ := by
  unfold part mix
  rw [pay2]
  simp only [gated_eq, blk1, blk2, blk6, blk7, blk8, blk9, blk10, blk11, row_pt, cut_pt]

/-- A point's block of the result, entry by entry. -/
theorem block (c : Dev nD) (t : Fin cfg0.N) (r : Fin 1024) (k : Fin 512) :
    out (F := Ideal) (iblk m c 0 t) (whole m c t) (iblk m c 12 t) (ix2 r k)
      = M (aX m c) (aU m c) (aYA m c) (aYB m c) (aO m c) (aH m c) (aPA m c) (aPB m c) (aPC m c) (aW m c) (ix2 (row t r) (col t k)) := by
  refine (pay3 (iblk m c 0 t) (whole m c t) (iblk m c 12 t) r k
    (fun d => mix (aU m c) (aYA m c) (aYB m c) (aO m c) (aH m c) (aPA m c) (aPB m c) (aPC m c) (row t r) d * aW m c (ix3 0 d (col t k))) fun j l => ?_).trans ?_
  · rw [blk12]
    show part m c t j (ix3 0 r l) * _ = _
    rw [part_eq]
    have e : (⟨512 * j.val + l.val, by omega⟩ : Fin 2048) = ⟨j.val * 512 + l.val, by omega⟩ := Fin.ext (by show 512 * j.val + l.val = j.val * 512 + l.val; omega)
    rw [e]
  · rw [blk0]
    rfl

/-- The result array after a run. -/
theorem out_x (c : Dev nD) : (dats m 0 c).arrAt 13 cfg0.N
    = M (aX m c) (aU m c) (aYA m c) (aYB m c) (aO m c) (aH m c) (aPA m c) (aPB m c) (aPC m c) (aW m c) := by
  refine (dats m 0 c).arrAt_eq_of_covers 13 _ (by decide +kernel) fun t hf y => ?_
  blk_simp
  rw [after_13]
  have h := block m c t (y 0) (y 1)
  have hy : (ix2 (y 0) (y 1) : S1024x512.Idx) = y := by blk_ext
  rw [hy] at h
  refine h.trans ?_
  have hr : (win0_13.blk t).view.emb y 0 = row t (y 0) := by
    apply Fin.ext
    blk_simp [row, idx t]
  have hc : (win0_13.blk t).view.emb y 1 = col t (y 1) := by
    apply Fin.ext
    blk_simp [col, idx t]
  unfold M
  rw [hr, hc]
  rfl

end Cert.Merge
-- ==== Proof.MergeClaim.lean ====
/- The merge: the claims. -/
module

public import proofs.«01_k».proof.Defs
public import proofs.«01_k».proof.Proof.MergeValue
public import proofs.«01_k».proof.Proof.MergeBitsFrame
public import proofs.«01_k».proof.Proof.Gen.Reference5Ideal.Run
public import Idealize.ShloMosaic.Lib.Quiescent

@[expose] public section

set_option maxRecDepth 16384

noncomputable section

namespace Cert.Merge

open Idealize.ShloMosaic Idealize.ShloMosaic.TcCoe Idealize.SL.Sem Idealize.ShloMosaic.Tactic

set_option maxHeartbeats 4000000 in
/-- The merge kernel and the plainly written merge leave the same result. -/
theorem equal : Cert.algebraic_Kernel5Ideal_Reference5Ideal := by
  pair_intro
  · run_from Cert.Merge.run_main m g
  · run_from Cert.Reference5Ideal.Value.run m' g'
    refine Eq.trans ?_ (out_x m c).symm
    funext j
    idx_vars j
    unfold M mix third rms sg
    pointwise []

/-- The printed program runs and leaves its arguments. -/
theorem frame_kernel : Cert.quiescent_Kernel5 := fun m ρ _ => Cert.MergeBits.frame m ρ

/-- So does its idealization. -/
theorem frame_ideal : Cert.quiescent_Kernel5Ideal := fun m ρ _ => Cert.Merge.frame m ρ

/-- So does the reference. -/
theorem frame_reference : Cert.quiescent_Reference5Ideal := fun m ρ _ =>
  (θ_run _ _ _).mono (fun _ h => ⟨fun c => (h c).2, sem_eq_zero_of_no_sems rfl _⟩) (Cert.Reference5Ideal.Value.run m ρ)

/-- Nothing was rewritten. -/
theorem same : Cert.preserves_Kernel5_Kernel5Ideal := trivial

end Cert.Merge
-- ==== Proof.lean ====
/- The claims about the layer's calls, each from its own module. -/
module

public import proofs.«01_k».proof.Defs
public import proofs.«01_k».proof.Proof.HgrnClaim
public import proofs.«01_k».proof.Proof.FfnClaim
public import proofs.«01_k».proof.Proof.HalfClaim
public import proofs.«01_k».proof.Proof.InprojClaim
public import proofs.«01_k».proof.Proof.MergeClaim

@[expose] public section

noncomputable section

namespace Cert.Proof

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_lower_bound.Gen.facts,
  Cert.Hgrn.frame_kernel, Cert.Hgrn.frame_ideal, Cert.Hgrn.frame_ideal_pre, Cert.Hgrn.frame_reference, Cert.Hgrn.frame_reference_pre,
  Cert.Ffn.frame_kernel, Cert.Ffn.frame_ideal, Cert.Ffn.frame_reference,
  Cert.Half.frame_kernel, Cert.Half.frame_ideal, Cert.Half.frame_reference,
  Cert.Inproj.frame_kernel, Cert.Inproj.frame_ideal, Cert.Inproj.frame_reference,
  Cert.Merge.frame_kernel, Cert.Merge.frame_ideal, Cert.Merge.frame_reference,
  Cert.Hgrn.same, Cert.Hgrn.equal, Cert.Ffn.same, Cert.Ffn.equal, Cert.Half.same, Cert.Half.equal,
  Cert.Inproj.same, Cert.Inproj.equal, Cert.Merge.same, Cert.Merge.equal⟩

end Cert.Proof

end
